-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v9) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v9) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Kernel2.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S1408x2048 : Shape := ⟨2, ![1408, 2048]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2048x2048 : Shape := ⟨2, ![2048, 2048]⟩
abbrev S2x2048x5632 : Shape := ⟨3, ![2, 2048, 5632]⟩
abbrev S2x4x2048x1408 : Shape := ⟨4, ![2, 4, 2048, 1408]⟩
abbrev S2048x512 : Shape := ⟨2, ![2048, 512]⟩
abbrev S1x2048x1408 : Shape := ⟨3, ![1, 2048, 1408]⟩
abbrev S1x1x512x1408 : Shape := ⟨4, ![1, 1, 512, 1408]⟩
abbrev S512x1408 : Shape := ⟨2, ![512, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2x4x2048x1408, .f32⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1x512x1408, .f32⟩
  | .local _ .vmem, ⟨5, _⟩ => ⟨S1x1x512x1408, .f32⟩
  | .local _ .vmem, ⟨6, _⟩ => ⟨S512x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg0.toNat, c0_i32_10.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2x2048x5632 : Shape := ⟨3, ![2, 2048, 5632]⟩
abbrev S_ : Shape := ⟨0, ![]⟩
abbrev S2x4x2048x1408 : Shape := ⟨4, ![2, 4, 2048, 1408]⟩
abbrev S2048x2x4x1408 : Shape := ⟨4, ![2048, 2, 4, 1408]⟩
abbrev S2048x11264 : Shape := ⟨2, ![2048, 11264]⟩
abbrev S2048x2x5632 : Shape := ⟨3, ![2048, 2, 5632]⟩
abbrev S11264x2048 : Shape := ⟨2, ![11264, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S_, .f32⟩
  | .hbm, ⟨3, _⟩ => ⟨S2x4x2048x1408, .f32⟩
  | .hbm, ⟨4, _⟩ => ⟨S2048x2048, .f32⟩
  | .hbm, ⟨5, _⟩ => ⟨S2048x2x4x1408, .f32⟩
  | .hbm, ⟨6, _⟩ => ⟨S2048x11264, .f32⟩
  | .hbm, ⟨7, _⟩ => ⟨S2048x11264, .f32⟩
  | .hbm, ⟨8, _⟩ => ⟨S2048x2x5632, .f32⟩
  | .hbm, ⟨9, _⟩ => ⟨S2x2048x5632, .f32⟩
  | .hbm, ⟨10, _⟩ => ⟨S2x2048x5632, .f32⟩
  | .hbm, ⟨11, _⟩ => ⟨S2048x2x5632, .f32⟩
  | .hbm, ⟨12, _⟩ => ⟨S2048x11264, .f32⟩
  | .hbm, ⟨13, _⟩ => ⟨S11264x2048, .f32⟩
  | .hbm, ⟨14, _⟩ => ⟨S2048x11264, .f32⟩
  | .hbm, ⟨15, _⟩ => ⟨S2048x2x4x1408, .f32⟩
  | .hbm, ⟨16, _⟩ => ⟨S2x4x2048x1408, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel5.lean ====
abbrev S2x2048x5632 : Shape := ⟨3, ![2, 2048, 5632]⟩
abbrev S2x4x2048x1408 : Shape := ⟨4, ![2, 4, 2048, 1408]⟩
abbrev S2048x2048 : Shape := ⟨2, ![2048, 2048]⟩
abbrev S1x512x2816 : Shape := ⟨3, ![1, 512, 2816]⟩
abbrev S1x2x1024x1408 : Shape := ⟨4, ![1, 2, 1024, 1408]⟩
abbrev S512x1024 : Shape := ⟨2, ![512, 1024]⟩
abbrev S1x512x1408 : Shape := ⟨3, ![1, 512, 1408]⟩
abbrev S512x1408 : Shape := ⟨2, ![512, 1408]⟩
abbrev S1x1x1024x1408 : Shape := ⟨4, ![1, 1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S2x4x2048x1408, .bf16⟩
  | .hbm, ⟨2, _⟩ => ⟨S2048x2048, .f32⟩
  | .local _ .vmem, ⟨0, _⟩ => ⟨S1x512x2816, .bf16⟩
  | .local _ .vmem, ⟨1, _⟩ => ⟨S1x512x2816, .bf16⟩
  | .local _ .vmem, ⟨2, _⟩ => ⟨S1x2x1024x1408, .bf16⟩
  | .local _ .vmem, ⟨3, _⟩ => ⟨S1x2x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_15 : BitVec 32 := 0#32
  let v19 : BitVec 1 := Scalar.cmpi .ne v18 c0_i32_15
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg2 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2x2048x5632 : Shape := ⟨3, ![2, 2048, 5632]⟩
abbrev S2x4x2048x1408 : Shape := ⟨4, ![2, 4, 2048, 1408]⟩
abbrev S_ : Shape := ⟨0, ![]⟩
abbrev S2048x2048 : Shape := ⟨2, ![2048, 2048]⟩
abbrev S2048x2x4x1408 : Shape := ⟨4, ![2048, 2, 4, 1408]⟩
abbrev S2048x11264 : Shape := ⟨2, ![2048, 11264]⟩
abbrev S2048x2x5632 : Shape := ⟨3, ![2048, 2, 5632]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S2x4x2048x1408, .bf16⟩
  | .hbm, ⟨2, _⟩ => ⟨S_, .f32⟩
  | .hbm, ⟨3, _⟩ => ⟨S2048x2048, .f32⟩
  | .hbm, ⟨4, _⟩ => ⟨S2x4x2048x1408, .f32⟩
  | .hbm, ⟨5, _⟩ => ⟨S2048x2x4x1408, .f32⟩
  | .hbm, ⟨6, _⟩ => ⟨S2048x11264, .f32⟩
  | .hbm, ⟨7, _⟩ => ⟨S2048x11264, .f32⟩
  | .hbm, ⟨8, _⟩ => ⟨S2048x2x5632, .f32⟩
  | .hbm, ⟨9, _⟩ => ⟨S2x2048x5632, .f32⟩
  | .hbm, ⟨10, _⟩ => ⟨S2x2048x5632, .f32⟩
  | .hbm, ⟨11, _⟩ => ⟨S2048x2x5632, .f32⟩
  | .hbm, ⟨12, _⟩ => ⟨S2048x11264, .f32⟩
  | .hbm, ⟨13, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S2048x11264 : Shape := ⟨2, ![2048, 11264]⟩
abbrev S2048x2048 : Shape := ⟨2, ![2048, 2048]⟩
abbrev S11264x2048 : Shape := ⟨2, ![11264, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2048x2048, .bf16⟩
  | .hbm, ⟨2, _⟩ => ⟨S11264x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x11264 : Shape := ⟨2, ![2048, 11264]⟩
abbrev S2048x2048 : Shape := ⟨2, ![2048, 2048]⟩
abbrev S_ : Shape := ⟨0, ![]⟩
abbrev S11264x2048 : Shape := ⟨2, ![11264, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x2048, .bf16⟩
  | .hbm, ⟨2, _⟩ => ⟨S_, .f32⟩
  | .hbm, ⟨3, _⟩ => ⟨S11264x2048, .f32⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S2048x11264, .f32⟩
  | .hbm, ⟨8, _⟩ => ⟨S11264x2048, .f32⟩
  | .hbm, ⟨9, _⟩ => ⟨S2048x11264, .f32⟩
  | .hbm, ⟨10, _⟩ => ⟨S11264x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S2048x11264 : Shape := ⟨2, ![2048, 11264]⟩
abbrev S11264x2048 : Shape := ⟨2, ![11264, 2048]⟩
abbrev S2048x2048 : Shape := ⟨2, ![2048, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S11264x2048, .bf16⟩
  | .hbm, ⟨2, _⟩ => ⟨S2048x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x11264 : Shape := ⟨2, ![2048, 11264]⟩
abbrev S11264x2048 : Shape := ⟨2, ![11264, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S11264x2048, .bf16⟩
  | .hbm, ⟨2, _⟩ => ⟨S_, .f32⟩
  | .hbm, ⟨3, _⟩ => ⟨S2048x2048, .f32⟩
  | .hbm, ⟨4, _⟩ => ⟨S11264x2048, .f32⟩
  | .hbm, ⟨5, _⟩ => ⟨S2048x11264, .f32⟩
  | .hbm, ⟨6, _⟩ => ⟨S2048x11264, .f32⟩
  | .hbm, ⟨7, _⟩ => ⟨S2048x11264, .f32⟩
  | .hbm, ⟨8, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x5632 : Shape := ⟨2, ![2048, 5632]⟩
abbrev S5632x2048 : Shape := ⟨2, ![5632, 2048]⟩
abbrev S2048x2048 : Shape := ⟨2, ![2048, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S2048x2048 : Shape := ⟨2, ![2048, 2048]⟩
abbrev S2x4x2048x1408 : Shape := ⟨4, ![2, 4, 2048, 1408]⟩
abbrev S2x2048x5632 : Shape := ⟨3, ![2, 2048, 5632]⟩
abbrev S512x2048 : Shape := ⟨2, ![512, 2048]⟩
abbrev S1x1x2048x1408 : Shape := ⟨4, ![1, 1, 2048, 1408]⟩
abbrev S1x512x1408 : Shape := ⟨3, ![1, 512, 1408]⟩
abbrev S512x1408 : Shape := ⟨2, ![512, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2x4x2048x1408, .bf16⟩
  | .hbm, ⟨2, _⟩ => ⟨S2x2048x5632, .f32⟩
  | .local _ .vmem, ⟨0, _⟩ => ⟨S512x2048, .bf16⟩
  | .local _ .vmem, ⟨1, _⟩ => ⟨S512x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x512x1408, .f32⟩
  | .local _ .vmem, ⟨5, _⟩ => ⟨S1x512x1408, .f32⟩
  | .local _ .vmem, ⟨6, _⟩ => ⟨S512x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_10 : BitVec 32 := 0#32
  let v12 : BitVec 1 := Scalar.cmpi .eq arg2 c0_i32_10
  let v13 : BitVec 32 := Scalar.extui v12
  let c0_i32_11 : BitVec 32 := 0#32
  let v14 : BitVec 1 := Scalar.cmpi .ne v13 c0_i32_11
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg2.toNat, c0_i32_10.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S2x4x2048x1408 : Shape := ⟨4, ![2, 4, 2048, 1408]⟩
abbrev S2048x2x4x1408 : Shape := ⟨4, ![2048, 2, 4, 1408]⟩
abbrev S2048x11264 : Shape := ⟨2, ![2048, 11264]⟩
abbrev S2048x2x5632 : Shape := ⟨3, ![2048, 2, 5632]⟩
abbrev S2x2048x5632 : Shape := ⟨3, ![2, 2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x4x2048x1408, .bf16⟩
  | .hbm, ⟨2, _⟩ => ⟨S2048x2048, .f32⟩
  | .hbm, ⟨3, _⟩ => ⟨S2x4x2048x1408, .f32⟩
  | .hbm, ⟨4, _⟩ => ⟨S2048x2x4x1408, .f32⟩
  | .hbm, ⟨5, _⟩ => ⟨S2048x11264, .f32⟩
  | .hbm, ⟨6, _⟩ => ⟨S2048x11264, .f32⟩
  | .hbm, ⟨7, _⟩ => ⟨S2048x2x5632, .f32⟩
  | .hbm, ⟨8, _⟩ => ⟨S2x2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel12.lean ====
abbrev S2048x2048 : Shape := ⟨2, ![2048, 2048]⟩
abbrev S11264x2048 : Shape := ⟨2, ![11264, 2048]⟩
abbrev S2048x11264 : Shape := ⟨2, ![2048, 11264]⟩
abbrev S512x2048 : Shape := ⟨2, ![512, 2048]⟩
abbrev S1408x2048 : Shape := ⟨2, ![1408, 2048]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S11264x2048, .bf16⟩
  | .hbm, ⟨2, _⟩ => ⟨S2048x11264, .f32⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S11264x2048 : Shape := ⟨2, ![11264, 2048]⟩
abbrev S2048x11264 : Shape := ⟨2, ![2048, 11264]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S11264x2048, .bf16⟩
  | .hbm, ⟨2, _⟩ => ⟨S2048x2048, .f32⟩
  | .hbm, ⟨3, _⟩ => ⟨S11264x2048, .f32⟩
  | .hbm, ⟨4, _⟩ => ⟨S2048x11264, .f32⟩
  | .hbm, ⟨5, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S2x2048x1024 : Shape := ⟨3, ![2, 2048, 1024]⟩
abbrev S2x2048x2048 : Shape := ⟨3, ![2, 2048, 2048]⟩
abbrev S2x4x1024x512 : Shape := ⟨4, ![2, 4, 1024, 512]⟩
abbrev S1x2048x1024 : Shape := ⟨3, ![1, 2048, 1024]⟩
abbrev S1x2048x512 : Shape := ⟨3, ![1, 2048, 512]⟩
abbrev S1x1x1024x512 : Shape := ⟨4, ![1, 1, 1024, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x2048, .bf16⟩
  | .hbm, ⟨2, _⟩ => ⟨S2x4x1024x512, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1x1024x512, .f32⟩
  | .local _ .vmem, ⟨5, _⟩ => ⟨S1x1x1024x512, .f32⟩
  | .local _ .vmem, ⟨6, _⟩ => ⟨S1024x512, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference14Ideal.lean ====
abbrev S2x2048x1024 : Shape := ⟨3, ![2, 2048, 1024]⟩
abbrev S2x2048x2048 : Shape := ⟨3, ![2, 2048, 2048]⟩
abbrev S_ : Shape := ⟨0, ![]⟩
abbrev S2x4x1024x512 : Shape := ⟨4, ![2, 4, 1024, 512]⟩
abbrev S2x1024x4x512 : Shape := ⟨4, ![2, 1024, 4, 512]⟩
abbrev S2x1024x2048 : Shape := ⟨3, ![2, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x2048, .bf16⟩
  | .hbm, ⟨2, _⟩ => ⟨S_, .f32⟩
  | .hbm, ⟨3, _⟩ => ⟨S2x4x1024x512, .f32⟩
  | .hbm, ⟨4, _⟩ => ⟨S2x2048x1024, .f32⟩
  | .hbm, ⟨5, _⟩ => ⟨S2x1024x4x512, .f32⟩
  | .hbm, ⟨6, _⟩ => ⟨S2x1024x2048, .f32⟩
  | .hbm, ⟨7, _⟩ => ⟨S2x2048x2048, .f32⟩
  | .hbm, ⟨8, _⟩ => ⟨S2x2048x2048, .f32⟩
  | .hbm, ⟨9, _⟩ => ⟨S2x2048x1024, .f32⟩
  | .hbm, ⟨10, _⟩ => ⟨S2x1024x2048, .f32⟩
  | .hbm, ⟨11, _⟩ => ⟨S2x1024x4x512, .f32⟩
  | .hbm, ⟨12, _⟩ => ⟨S2x4x1024x512, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel15.lean ====
abbrev S2x2048x2048 : Shape := ⟨3, ![2, 2048, 2048]⟩
abbrev S2x4x1024x512 : Shape := ⟨4, ![2, 4, 1024, 512]⟩
abbrev S2x2048x1024 : Shape := ⟨3, ![2, 2048, 1024]⟩
abbrev S1x512x512 : Shape := ⟨3, ![1, 512, 512]⟩
abbrev S1x1x1024x512 : Shape := ⟨4, ![1, 1, 1024, 512]⟩
abbrev S1x512x1024 : Shape := ⟨3, ![1, 512, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x2048, .bf16⟩
  | .hbm, ⟨1, _⟩ => ⟨S2x4x1024x512, .bf16⟩
  | .hbm, ⟨2, _⟩ => ⟨S2x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2x2048x2048 : Shape := ⟨3, ![2, 2048, 2048]⟩
abbrev S2x4x1024x512 : Shape := ⟨4, ![2, 4, 1024, 512]⟩
abbrev S_ : Shape := ⟨0, ![]⟩
abbrev S2x2048x1024 : Shape := ⟨3, ![2, 2048, 1024]⟩
abbrev S2x1024x4x512 : Shape := ⟨4, ![2, 1024, 4, 512]⟩
abbrev S2x1024x2048 : Shape := ⟨3, ![2, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2x4x1024x512, .bf16⟩
  | .hbm, ⟨2, _⟩ => ⟨S_, .f32⟩
  | .hbm, ⟨3, _⟩ => ⟨S2x2048x1024, .f32⟩
  | .hbm, ⟨4, _⟩ => ⟨S2x4x1024x512, .f32⟩
  | .hbm, ⟨5, _⟩ => ⟨S2x1024x4x512, .f32⟩
  | .hbm, ⟨6, _⟩ => ⟨S2x1024x2048, .f32⟩
  | .hbm, ⟨7, _⟩ => ⟨S2x2048x2048, .f32⟩
  | .hbm, ⟨8, _⟩ => ⟨S2x2048x2048, .f32⟩
  | .hbm, ⟨9, _⟩ => ⟨S2x2048x1024, .f32⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S2x2048x1024 : Shape := ⟨3, ![2, 2048, 1024]⟩
abbrev S2x4x1024x512 : Shape := ⟨4, ![2, 4, 1024, 512]⟩
abbrev S2x2048x2048 : Shape := ⟨3, ![2, 2048, 2048]⟩
abbrev S1x512x1024 : Shape := ⟨3, ![1, 512, 1024]⟩
abbrev S1x1x1024x512 : Shape := ⟨4, ![1, 1, 1024, 512]⟩
abbrev S1x512x512 : Shape := ⟨3, ![1, 512, 512]⟩
abbrev S512x512 : Shape := ⟨2, ![512, 512]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S2x4x1024x512, .bf16⟩
  | .hbm, ⟨2, _⟩ => ⟨S2x2048x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_11 : BitVec 32 := 0#32
  let v13 : BitVec 1 := Scalar.cmpi .eq arg2 c0_i32_11
  let v14 : BitVec 32 := Scalar.extui v13
  let c0_i32_12 : BitVec 32 := 0#32
  let v15 : BitVec 1 := Scalar.cmpi .ne v14 c0_i32_12
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg0.toNat, c0_i32_4.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2x2048x1024 : Shape := ⟨3, ![2, 2048, 1024]⟩
abbrev S2x4x1024x512 : Shape := ⟨4, ![2, 4, 1024, 512]⟩
abbrev S2x1024x4x512 : Shape := ⟨4, ![2, 1024, 4, 512]⟩
abbrev S2x1024x2048 : Shape := ⟨3, ![2, 1024, 2048]⟩
abbrev S2x2048x2048 : Shape := ⟨3, ![2, 2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x4x1024x512, .bf16⟩
  | .hbm, ⟨2, _⟩ => ⟨S2x2048x1024, .f32⟩
  | .hbm, ⟨3, _⟩ => ⟨S2x4x1024x512, .f32⟩
  | .hbm, ⟨4, _⟩ => ⟨S2x1024x4x512, .f32⟩
  | .hbm, ⟨5, _⟩ => ⟨S2x1024x2048, .f32⟩
  | .hbm, ⟨6, _⟩ => ⟨S2x2048x2048, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel17.lean ====
abbrev S2x2048x5632 : Shape := ⟨3, ![2, 2048, 5632]⟩
abbrev S1x4x2048x1408 : Shape := ⟨4, ![1, 4, 2048, 1408]⟩
abbrev S2048x2048 : Shape := ⟨2, ![2048, 2048]⟩
abbrev S1x512x2816 : Shape := ⟨3, ![1, 512, 2816]⟩
abbrev S1x2x1024x1408 : Shape := ⟨4, ![1, 2, 1024, 1408]⟩
abbrev S512x1024 : Shape := ⟨2, ![512, 1024]⟩
abbrev S1x512x1408 : Shape := ⟨3, ![1, 512, 1408]⟩
abbrev S512x1408 : Shape := ⟨2, ![512, 1408]⟩
abbrev S1x1x1024x1408 : Shape := ⟨4, ![1, 1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S1x4x2048x1408, .bf16⟩
  | .hbm, ⟨2, _⟩ => ⟨S2048x2048, .f32⟩
  | .local _ .vmem, ⟨0, _⟩ => ⟨S1x512x2816, .bf16⟩
  | .local _ .vmem, ⟨1, _⟩ => ⟨S1x512x2816, .bf16⟩
  | .local _ .vmem, ⟨2, _⟩ => ⟨S1x2x1024x1408, .bf16⟩
  | .local _ .vmem, ⟨3, _⟩ => ⟨S1x2x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v17 : BitVec 1 := Scalar.cmpi .eq arg2 c1_i32
  let v18 : BitVec 32 := Scalar.extui v17
  let c0_i32_15 : BitVec 32 := 0#32
  let v19 : BitVec 1 := Scalar.cmpi .ne v18 c0_i32_15
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg2 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2x2048x5632 : Shape := ⟨3, ![2, 2048, 5632]⟩
abbrev S1x4x2048x1408 : Shape := ⟨4, ![1, 4, 2048, 1408]⟩
abbrev S_ : Shape := ⟨0, ![]⟩
abbrev S2048x2048 : Shape := ⟨2, ![2048, 2048]⟩
abbrev S1x2048x5632 : Shape := ⟨3, ![1, 2048, 5632]⟩
abbrev S2048x5632 : Shape := ⟨2, ![2048, 5632]⟩
abbrev S2048x1x4x1408 : Shape := ⟨4, ![2048, 1, 4, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S1x4x2048x1408, .bf16⟩
  | .hbm, ⟨2, _⟩ => ⟨S_, .f32⟩
  | .hbm, ⟨3, _⟩ => ⟨S2048x2048, .f32⟩
  | .hbm, ⟨4, _⟩ => ⟨S1x2048x5632, .bf16⟩
  | .hbm, ⟨5, _⟩ => ⟨S2048x5632, .bf16⟩
  | .hbm, ⟨6, _⟩ => ⟨S1x4x2048x1408, .f32⟩
  | .hbm, ⟨7, _⟩ => ⟨S2048x1x4x1408, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel18.lean ====
abbrev S2x2048x5632 : Shape := ⟨3, ![2, 2048, 5632]⟩
abbrev S1x4x2048x1408 : Shape := ⟨4, ![1, 4, 2048, 1408]⟩
abbrev S2048x2048 : Shape := ⟨2, ![2048, 2048]⟩
abbrev S1x512x2816 : Shape := ⟨3, ![1, 512, 2816]⟩
abbrev S1x2x1024x1408 : Shape := ⟨4, ![1, 2, 1024, 1408]⟩
abbrev S512x1024 : Shape := ⟨2, ![512, 1024]⟩
abbrev S1x512x1408 : Shape := ⟨3, ![1, 512, 1408]⟩
abbrev S512x1408 : Shape := ⟨2, ![512, 1408]⟩
abbrev S1x1x1024x1408 : Shape := ⟨4, ![1, 1, 1024, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S2x2048x5632, .bf16⟩
  | .hbm, ⟨1, _⟩ => ⟨S1x4x2048x1408, .bf16⟩
  | .hbm, ⟨2, _⟩ => ⟨S2048x2048, .f32⟩
  | .hbm, ⟨3, _⟩ => ⟨S2048x2048, .f32⟩
  | .local _ .vmem, ⟨0, _⟩ => ⟨S1x512x2816, .bf16⟩
  | .local _ .vmem, ⟨1, _⟩ => ⟨S1x512x2816, .bf16⟩
  | .local _ .vmem, ⟨2, _⟩ => ⟨S1x2x1024x1408, .bf16⟩
  | .local _ .vmem, ⟨3, _⟩ => ⟨S1x2x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v17 : BitVec 1 := Scalar.cmpi .eq arg2 c1_i32
  let v18 : BitVec 32 := Scalar.extui v17
  let c0_i32_15 : BitVec 32 := 0#32
  let v19 : BitVec 1 := Scalar.cmpi .ne v18 c0_i32_15
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg2 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S2x2048x5632 : Shape := ⟨3, ![2, 2048, 5632]⟩
abbrev S1x4x2048x1408 : Shape := ⟨4, ![1, 4, 2048, 1408]⟩
abbrev S2048x2048 : Shape := ⟨2, ![2048, 2048]⟩
abbrev S_ : Shape := ⟨0, ![]⟩
abbrev S1x2048x5632 : Shape := ⟨3, ![1, 2048, 5632]⟩
abbrev S2048x5632 : Shape := ⟨2, ![2048, 5632]⟩
abbrev S2048x1x4x1408 : Shape := ⟨4, ![2048, 1, 4, 1408]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S1x4x2048x1408, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S1x2048x5632, .bf16⟩
  | .hbm, ⟨6, _⟩ => ⟨S2048x5632, .bf16⟩
  | .hbm, ⟨7, _⟩ => ⟨S1x4x2048x1408, .f32⟩
  | .hbm, ⟨8, _⟩ => ⟨S2048x1x4x1408, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S2048x2048, .f32⟩
  | .hbm, ⟨13, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel19.lean ====
abbrev S2048x2048 : Shape := ⟨2, ![2048, 2048]⟩
abbrev S1x4x2048x1408 : Shape := ⟨4, ![1, 4, 2048, 1408]⟩
abbrev S2x2048x5632 : Shape := ⟨3, ![2, 2048, 5632]⟩
abbrev S512x2048 : Shape := ⟨2, ![512, 2048]⟩
abbrev S1x1x2048x1408 : Shape := ⟨4, ![1, 1, 2048, 1408]⟩
abbrev S1x512x1408 : Shape := ⟨3, ![1, 512, 1408]⟩
abbrev S512x1408 : Shape := ⟨2, ![512, 1408]⟩
abbrev S2048x1408 : Shape := ⟨2, ![2048, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S1x4x2048x1408, .bf16⟩
  | .hbm, ⟨2, _⟩ => ⟨S2x2048x5632, .f32⟩
  | .hbm, ⟨3, _⟩ => ⟨S2x2048x5632, .f32⟩
  | .local _ .vmem, ⟨0, _⟩ => ⟨S512x2048, .bf16⟩
  | .local _ .vmem, ⟨1, _⟩ => ⟨S512x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x512x1408, .f32⟩
  | .local _ .vmem, ⟨5, _⟩ => ⟨S1x512x1408, .f32⟩
  | .local _ .vmem, ⟨6, _⟩ => ⟨S512x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_10 : BitVec 32 := 0#32
  let v12 : BitVec 1 := Scalar.cmpi .eq arg2 c0_i32_10
  let v13 : BitVec 32 := Scalar.extui v12
  let c0_i32_11 : BitVec 32 := 0#32
  let v14 : BitVec 1 := Scalar.cmpi .ne v13 c0_i32_11
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg2.toNat, c0_i32_10.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x2048 : Shape := ⟨2, ![2048, 2048]⟩
abbrev S1x4x2048x1408 : Shape := ⟨4, ![1, 4, 2048, 1408]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S2048x1x4x1408 : Shape := ⟨4, ![2048, 1, 4, 1408]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x4x2048x1408, .bf16⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S2048x2048, .f32⟩
  | .hbm, ⟨6, _⟩ => ⟨S1x4x2048x1408, .f32⟩
  | .hbm, ⟨7, _⟩ => ⟨S2048x1x4x1408, .f32⟩
  | .hbm, ⟨8, _⟩ => ⟨S2048x5632, .f32⟩
  | .hbm, ⟨9, _⟩ => ⟨S2048x5632, .f32⟩
  | .hbm, ⟨10, _⟩ => ⟨S1x2048x5632, .f32⟩
  | .hbm, ⟨11, _⟩ => ⟨S1x2048x5632, .f32⟩
  | .hbm, ⟨12, _⟩ => ⟨S2x2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Mm.Spec.lean ====
/- What the calls share: the matrix products they compute, as sums; one point's product; and the steps from a run to its claims. -/
module

public import Idealize.ShloMosaic.Lib.Pipeline.ValueKit
public import Idealize.ShloMosaic.Lib.Quiescent

@[expose] public section

noncomputable section

namespace Cert.Mm

open Idealize.ShloMosaic Idealize.SL.Sem
open scoped BigOperators

/-! ## Products -/

section
variable {k m n : Nat}

/-- The product of the transpose of `a` with `b`. -/
def tn (a : Shape.Idx ⟨2, ![k, m]⟩ → EReal) (b : Shape.Idx ⟨2, ![k, n]⟩ → EReal) : Shape.Idx ⟨2, ![m, n]⟩ → EReal :=
  fun i => ∑ r : Fin k, a (ix2 r (i 0)) * b (ix2 r (i 1))

/-- The product of `a` with the transpose of `b`. -/
def nt (a : Shape.Idx ⟨2, ![m, k]⟩ → EReal) (b : Shape.Idx ⟨2, ![n, k]⟩ → EReal) : Shape.Idx ⟨2, ![m, n]⟩ → EReal :=
  fun i => ∑ r : Fin k, a (ix2 (i 0) r) * b (ix2 (i 1) r)

/-- The product of `a` with `b`. -/
def nn (a : Shape.Idx ⟨2, ![m, k]⟩ → EReal) (b : Shape.Idx ⟨2, ![k, n]⟩ → EReal) : Shape.Idx ⟨2, ![m, n]⟩ → EReal :=
  fun i => ∑ r : Fin k, a (ix2 (i 0) r) * b (ix2 r (i 1))

/-- Two sums of products agree when their factors do. -/
theorem sum_congr₂ {f f' g g' : Fin k → EReal} (hf : ∀ r, f r = f' r) (hg : ∀ r, g r = g' r) :
    ∑ r, f r * g r = ∑ r, f' r * g' r :=
  Finset.sum_congr rfl fun r _ => congrArg₂ (· * ·) (hf r) (hg r)

/-- … when each factor of one is the other factor of the other. -/
theorem sum_comm₂ {f f' g g' : Fin k → EReal} (hf : ∀ r, f r = g' r) (hg : ∀ r, g r = f' r) :
    ∑ r, f r * g r = ∑ r, f' r * g' r :=
  (Finset.sum_congr rfl fun _ _ => mul_comm _ _).trans (sum_congr₂ hg hf)

/-- What a point with a single step writes: zeros, and the product of its two blocks added to them. -/
def point {s sl sr : Shape} (d : DotDims sl sr s) (h : s.ShapeCasts s) (x0 : FVec Ideal sl .bf16) (x1 : FVec Ideal sr .bf16) :
    FVec Ideal s .f32 :=
  shapeCast s (addf (shapeCast s (broadcast s (Scalar.ofBits .f32 0x00000000#32)) h)
    (matmul d none x0 x1 (constant s .f32 0x00000000#32))) h

theorem point_at {s sl sr : Shape} (d : DotDims sl sr s) (h : s.ShapeCasts s) (x0 : FVec Ideal sl .bf16) (x1 : FVec Ideal sr .bf16)
    {a : Fin sl.rank} (hc : d.lhsContracting = [a]) {K : Nat} (hK : sl.size a = K) (y : s.Idx) (L : Fin K → sl.Idx) (R : Fin K → sr.Idx)
    (hL : ∀ k, Shape.Idx.norm (d.lhsIdx y (d.contrIdx₁ hc hK k)) = L k)
    (hR : ∀ k, Shape.Idx.norm (d.rhsIdx y (d.contrIdx₁ hc hK k)) = R k) :
    point d h x0 x1 y = ∑ k : Fin K, HMul.hMul (α := EReal) (β := EReal) (γ := EReal) (x0 (L k)) (x1 (R k)) := by
  unfold point
  pointwise
  refine (Ideal.matmul_apply₁_of d hc hK x0 x1 _ y L R hL hR).trans ?_
  exact (congrArg (· + _) (show constant (F := Ideal) s .f32 0x00000000#32 y = (0 : EReal) by pointwise)).trans (zero_add _)

theorem point_tn (wf : DotDims.WF ⟨2, ![k, m]⟩ ⟨2, ![k, n]⟩ ⟨2, ![m, n]⟩ [0] [0] [1] [1] [] []) (h)
    (x0 : FVec Ideal ⟨2, ![k, m]⟩ .bf16) (x1 : FVec Ideal ⟨2, ![k, n]⟩ .bf16) :
    point ⟨[0], [0], [1], [1], [], [], wf⟩ h x0 x1 = tn x0 x1 :=
  funext fun y => point_at _ h x0 x1 (a := 0) (K := k) rfl rfl y (fun r => ix2 r (y 0)) (fun r => ix2 r (y 1))
    (fun _ => by funext e; fin_cases e <;> rfl) (fun _ => by funext e; fin_cases e <;> rfl)

theorem point_nt (wf : DotDims.WF ⟨2, ![m, k]⟩ ⟨2, ![n, k]⟩ ⟨2, ![m, n]⟩ [1] [1] [0] [0] [] []) (h)
    (x0 : FVec Ideal ⟨2, ![m, k]⟩ .bf16) (x1 : FVec Ideal ⟨2, ![n, k]⟩ .bf16) :
    point ⟨[1], [1], [0], [0], [], [], wf⟩ h x0 x1 = nt x0 x1 :=
  funext fun y => point_at _ h x0 x1 (a := 1) (K := k) rfl rfl y (fun r => ix2 (y 0) r) (fun r => ix2 (y 1) r)
    (fun _ => by funext e; fin_cases e <;> rfl) (fun _ => by funext e; fin_cases e <;> rfl)

theorem point_nn (wf : DotDims.WF ⟨2, ![m, k]⟩ ⟨2, ![k, n]⟩ ⟨2, ![m, n]⟩ [1] [0] [0] [1] [] []) (h)
    (x0 : FVec Ideal ⟨2, ![m, k]⟩ .bf16) (x1 : FVec Ideal ⟨2, ![k, n]⟩ .bf16) :
    point ⟨[1], [0], [0], [1], [], [], wf⟩ h x0 x1 = nn x0 x1 :=
  funext fun y => point_at _ h x0 x1 (a := 1) (K := k) rfl rfl y (fun r => ix2 (y 0) r) (fun r => ix2 r (y 1))
    (fun _ => by funext e; fin_cases e <;> rfl) (fun _ => by funext e; fin_cases e <;> rfl)

end

/-! ## From a run to its claims -/

section
variable {nD : Nat} {τ : Topo} {sig : RefSig} {Val : EltTy → Type} {Λ : Labels}
  {D D' : Defs nD τ sig Val Λ} {P : (c : Thread nD τ) → Prog (TpuEff nD τ sig Val Λ c.2) PUnit} {s : MemSt nD τ sig Val}

/-- A run on a machine without semaphores that keeps its arguments is a frame. -/
theorem quiet {ι : Type} {A B : ι → PUnit × MemSt nD τ sig Val → Prop} (hs : sig.nSem + sig.nDmaSem = 0)
    (h : θ_run D P s fun r => ∀ c, A c r ∧ B c r) : θ_run D P s fun r => (∀ c, B c r) ∧ r.2.sem = fun _ => 0 :=
  (θ_run D P s).mono (fun r h => ⟨fun c => (h c).2, sem_eq_zero_of_no_sems hs r.2⟩) h

/-- A run under one body table is one under an equal table. -/
theorem same {Q : PUnit × MemSt nD τ sig Val → Prop} (e : D = D') (h : θ_run D' P s Q) : θ_run D P s Q := e ▸ h

/-- A kernel's run that leaves `v` and a reference's that leaves `w`, with `w = v`: both leave one value. -/
theorem agree {nD' : Nat} {τ' : Topo} {sig' : RefSig} {Val' : EltTy → Type} {Λ' : Labels} {E : Defs nD' τ' sig' Val' Λ'}
    {P' : (c : Thread nD' τ') → Prog (TpuEff nD' τ' sig' Val' Λ' c.2) PUnit} {s' : MemSt nD' τ' sig' Val'}
    {ι : Type} {β : ι → Type} {v w : (c : ι) → β c} {f : (c : ι) → PUnit × MemSt nD τ sig Val → β c}
    {f' : (c : ι) → PUnit × MemSt nD' τ' sig' Val' → β c} {A : ι → PUnit × MemSt nD τ sig Val → Prop}
    {A' : ι → PUnit × MemSt nD' τ' sig' Val' → Prop}
    (h : θ_run D P s fun r => ∀ c, f c r = v c ∧ A c r) (h' : θ_run E P' s' fun r => ∀ c, f' c r = w c ∧ A' c r)
    (e : ∀ c, w c = v c) :
    ∃ u : (c : ι) → β c, θ_run D P s (fun r => ∀ c, f c r = u c ∧ A c r) ∧ θ_run E P' s' (fun r => ∀ c, f' c r = u c ∧ A' c r) :=
  ⟨v, h, (θ_run E P' s').mono (fun _ h c => ⟨(h c).1.trans (e c), (h c).2⟩) h'⟩

end

/-- Two families over one label agree if they agree at it. -/
theorem one_label {A : Fin 1 → Type} {B : (l : Fin 1) → A l → Type 1} {f g : (l : Fin 1) → (a : A l) → B l a}
    (h : ∀ a, f 0 a = g 0 a) : f = g := by
  funext l a
  obtain rfl : l = 0 := Subsingleton.elim _ _
  exact h a

end Cert.Mm

end
-- ==== Proof.Mm.Tn.lean ====
/- The calls that multiply the transpose of an array by another: each weight's gradient is one sum over the rows. -/
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Mm.Spec
public import proofs.«01_k».proof.Defs

@[expose] public section

noncomputable section

open Idealize.ShloMosaic Idealize.ShloMosaic.TcCoe Idealize.ShloMosaic.Tactic

namespace Cert.Kernel2Ideal.Mm

open Cert.Kernel2Ideal Cert.Kernel2Ideal.Gen

theorem ix_0 : ∀ t : Fin cfg0.N, win0_0.index t = ![0, t.val / 2] := by decide +kernel
theorem ix_1 : ∀ t : Fin cfg0.N, win0_1.index t = ![0, t.val % 2] := by decide +kernel
theorem ix_2 : ∀ t : Fin cfg0.N, win0_2.index t = ![t.val / 2, t.val % 2] := by decide +kernel

theorem final (m : (ℓ : Loc nD τ sig) → Buf (Elt Ideal) ℓ) (c : Dev nD) : (dats m 0 c).arrAt 2 cfg0.N
    = Cert.Mm.tn (m ((c : Thread nD τ).loc main_arg0)) (m ((c : Thread nD τ).loc main_arg1)) := by
  refine (dats m 0 c).arrAt_eq_of_covers 2 _ (by decide +kernel) (fun t hf y => ?_)
  blk_simp
  rw [after0_2, outsAt0]
  frame_out
  refine (congrFun (Cert.Mm.point_tn _ _ _ _) y).trans (Cert.Mm.sum_congr₂ (fun k => ?_) (fun k => ?_))
  · blk_ext [iblk, V, ix_0, ix_2]
  · blk_ext [iblk, V, ix_1, ix_2]

end Cert.Kernel2Ideal.Mm

/-- The gradient of the down projection's weight. -/
theorem Cert.Mm.dw_down : Cert.algebraic_Kernel2Ideal_Reference2Ideal := fun m g m' g' _ hm =>
  Cert.Mm.agree (Cert.Kernel2Ideal.Value.run_blocks m g) (Cert.Reference2Ideal.Value.run m' g') fun c => by
    rw [Cert.Reference2Ideal.Read.val_main_v5_eq, (hm c).1, (hm c).2, Cert.Kernel2Ideal.Mm.final]
    funext i
    rw [Cert.Reference2Ideal.Read.val_main_v5_apply, Cert.Reference2Ideal.Read.val_main_v4_apply]
    exact Cert.Mm.sum_comm₂ (fun _ => congrArg _ (eq_ix2 _)) (fun _ => congrArg _ (eq_ix2 _))

namespace Cert.Kernel6Ideal.Mm

open Cert.Kernel6Ideal Cert.Kernel6Ideal.Gen

theorem ix_0 : ∀ t : Fin cfg0.N, win0_0.index t = ![0, t.val / 2] := by decide +kernel
theorem ix_1 : ∀ t : Fin cfg0.N, win0_1.index t = ![0, t.val % 2] := by decide +kernel
theorem ix_2 : ∀ t : Fin cfg0.N, win0_2.index t = ![t.val / 2, t.val % 2] := by decide +kernel

theorem final (m : (ℓ : Loc nD τ sig) → Buf (Elt Ideal) ℓ) (c : Dev nD) : (dats m 0 c).arrAt 2 cfg0.N
    = Cert.Mm.tn (m ((c : Thread nD τ).loc main_arg0)) (m ((c : Thread nD τ).loc main_arg1)) := by
  refine (dats m 0 c).arrAt_eq_of_covers 2 _ (by decide +kernel) (fun t hf y => ?_)
  blk_simp
  rw [after0_2, outsAt0]
  frame_out
  refine (congrFun (Cert.Mm.point_tn _ _ _ _) y).trans (Cert.Mm.sum_congr₂ (fun k => ?_) (fun k => ?_))
  · blk_ext [iblk, V, ix_0, ix_2]
  · blk_ext [iblk, V, ix_1, ix_2]

end Cert.Kernel6Ideal.Mm

/-- The gradient of the mixing's input projection's weight. -/
theorem Cert.Mm.dw_in : Cert.algebraic_Kernel6Ideal_Reference6Ideal := fun m g m' g' _ hm =>
  Cert.Mm.agree (Cert.Kernel6Ideal.Value.run_blocks m g) (Cert.Reference6Ideal.Value.run m' g') fun c => by
    rw [Cert.Reference6Ideal.Read.val_main_v7_eq, (hm c).1, (hm c).2, Cert.Kernel6Ideal.Mm.final]
    funext i
    rw [Cert.Reference6Ideal.Read.val_main_v7_apply, Cert.Reference6Ideal.Read.val_main_v6_apply,
      Cert.Reference6Ideal.Read.val_main_v5_apply]
    exact Cert.Mm.sum_congr₂ (fun _ => congrArg _ (eq_ix2 _)) (fun _ => congrArg _ (eq_ix2 _))

namespace Cert.Kernel8Ideal.Mm

open Cert.Kernel8Ideal Cert.Kernel8Ideal.Gen

theorem ix_0 : ∀ t : Fin cfg0.N, win0_0.index t = ![0, t.val / 2] := by decide +kernel
theorem ix_1 : ∀ t : Fin cfg0.N, win0_1.index t = ![0, t.val % 2] := by decide +kernel
theorem ix_2 : ∀ t : Fin cfg0.N, win0_2.index t = ![t.val / 2, t.val % 2] := by decide +kernel

theorem final (m : (ℓ : Loc nD τ sig) → Buf (Elt Ideal) ℓ) (c : Dev nD) : (dats m 0 c).arrAt 2 cfg0.N
    = Cert.Mm.tn (m ((c : Thread nD τ).loc main_arg0)) (m ((c : Thread nD τ).loc main_arg1)) := by
  refine (dats m 0 c).arrAt_eq_of_covers 2 _ (by decide +kernel) (fun t hf y => ?_)
  blk_simp
  rw [after0_2, outsAt0]
  frame_out
  refine (congrFun (Cert.Mm.point_tn _ _ _ _) y).trans (Cert.Mm.sum_congr₂ (fun k => ?_) (fun k => ?_))
  · blk_ext [iblk, V, ix_0, ix_2]
  · blk_ext [iblk, V, ix_1, ix_2]

end Cert.Kernel8Ideal.Mm

/-- The gradient of the mixing's output projection's weight. -/
theorem Cert.Mm.dw_out : Cert.algebraic_Kernel8Ideal_Reference8Ideal := fun m g m' g' _ hm =>
  Cert.Mm.agree (Cert.Kernel8Ideal.Value.run_blocks m g) (Cert.Reference8Ideal.Value.run m' g') fun c => by
    rw [Cert.Reference8Ideal.Read.val_main_v5_eq, (hm c).1, (hm c).2, Cert.Kernel8Ideal.Mm.final]
    funext i
    rw [Cert.Reference8Ideal.Read.val_main_v5_apply, Cert.Reference8Ideal.Read.val_main_v4_apply]
    exact Cert.Mm.sum_comm₂ (fun _ => congrArg _ (eq_ix2 _)) (fun _ => congrArg _ (eq_ix2 _))

end
-- ==== Proof.Mm.Nt.lean ====
/- The calls that multiply by the transpose of a weight. -/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Mm.Spec
public import proofs.«01_k».proof.Defs

@[expose] public section

noncomputable section

open Idealize.ShloMosaic Idealize.ShloMosaic.TcCoe Idealize.ShloMosaic.Tactic

namespace Cert.Kernel3Ideal.Mm

open Cert.Kernel3Ideal Cert.Kernel3Ideal.Gen

theorem ix_0 : ∀ t : Fin cfg0.N, win0_0.index t = ![t.val / 4, 0] := by decide +kernel
theorem ix_1 : ∀ t : Fin cfg0.N, win0_1.index t = ![t.val % 4, 0] := by decide +kernel
theorem ix_2 : ∀ t : Fin cfg0.N, win0_2.index t = ![t.val / 4, t.val % 4] := by decide +kernel

theorem final (m : (ℓ : Loc nD τ sig) → Buf (Elt Ideal) ℓ) (c : Dev nD) : (dats m 0 c).arrAt 2 cfg0.N
    = Cert.Mm.nt (m ((c : Thread nD τ).loc main_arg0)) (m ((c : Thread nD τ).loc main_arg1)) := by
  refine (dats m 0 c).arrAt_eq_of_covers 2 _ (by decide +kernel) (fun t hf y => ?_)
  blk_simp
  rw [after0_2, outsAt0]
  frame_out
  refine (congrFun (Cert.Mm.point_nt _ _ _ _) y).trans (Cert.Mm.sum_congr₂ (fun k => ?_) (fun k => ?_))
  · blk_ext [iblk, V, ix_0, ix_2]
  · blk_ext [iblk, V, ix_1, ix_2]

end Cert.Kernel3Ideal.Mm

/-- The gradient of the down projection's input. -/
theorem Cert.Mm.dact : Cert.algebraic_Kernel3Ideal_Reference3Ideal := fun m g m' g' _ hm =>
  Cert.Mm.agree (Cert.Kernel3Ideal.Value.run_blocks m g) (Cert.Reference3Ideal.Value.run m' g') fun c => by
    rw [Cert.Reference3Ideal.Read.val_main_v4_eq, (hm c).1, (hm c).2, Cert.Kernel3Ideal.Mm.final]
    funext i
    rw [Cert.Reference3Ideal.Read.val_main_v4_apply]
    exact Cert.Mm.sum_congr₂ (fun _ => congrArg _ (eq_ix2 _)) (fun _ => congrArg _ (eq_ix2 _))

namespace Cert.Kernel9Ideal.Mm

open Cert.Kernel9Ideal Cert.Kernel9Ideal.Gen

theorem ix_0 : ∀ t : Fin cfg0.N, win0_0.index t = ![t.val / 2, 0] := by decide +kernel
theorem ix_1 : ∀ t : Fin cfg0.N, win0_1.index t = ![t.val % 2, 0] := by decide +kernel
theorem ix_2 : ∀ t : Fin cfg0.N, win0_2.index t = ![t.val / 2, t.val % 2] := by decide +kernel

theorem final (m : (ℓ : Loc nD τ sig) → Buf (Elt Ideal) ℓ) (c : Dev nD) : (dats m 0 c).arrAt 2 cfg0.N
    = Cert.Mm.nt (m ((c : Thread nD τ).loc main_arg0)) (m ((c : Thread nD τ).loc main_arg1)) := by
  refine (dats m 0 c).arrAt_eq_of_covers 2 _ (by decide +kernel) (fun t hf y => ?_)
  blk_simp
  rw [after0_2, outsAt0]
  frame_out
  refine (congrFun (Cert.Mm.point_nt _ _ _ _) y).trans (Cert.Mm.sum_congr₂ (fun k => ?_) (fun k => ?_))
  · blk_ext [iblk, V, ix_0, ix_2]
  · blk_ext [iblk, V, ix_1, ix_2]

end Cert.Kernel9Ideal.Mm

/-- The gradient of the mixing's output projection's input. -/
theorem Cert.Mm.dmerged : Cert.algebraic_Kernel9Ideal_Reference9Ideal := fun m g m' g' _ hm =>
  Cert.Mm.agree (Cert.Kernel9Ideal.Value.run_blocks m g) (Cert.Reference9Ideal.Value.run m' g') fun c => by
    rw [Cert.Reference9Ideal.Read.val_main_v4_eq, (hm c).1, (hm c).2, Cert.Kernel9Ideal.Mm.final]
    funext i
    rw [Cert.Reference9Ideal.Read.val_main_v4_apply]
    exact Cert.Mm.sum_congr₂ (fun _ => congrArg _ (eq_ix2 _)) (fun _ => congrArg _ (eq_ix2 _))

namespace Cert.Kernel12Ideal.Mm

open Cert.Kernel12Ideal Cert.Kernel12Ideal.Gen

theorem ix_0 : ∀ t : Fin cfg0.N, win0_0.index t = ![t.val / 8, 0] := by decide +kernel
theorem ix_1 : ∀ t : Fin cfg0.N, win0_1.index t = ![t.val % 8, 0] := by decide +kernel
theorem ix_2 : ∀ t : Fin cfg0.N, win0_2.index t = ![t.val / 8, t.val % 8] := by decide +kernel

theorem final (m : (ℓ : Loc nD τ sig) → Buf (Elt Ideal) ℓ) (c : Dev nD) : (dats m 0 c).arrAt 2 cfg0.N
    = Cert.Mm.nt (m ((c : Thread nD τ).loc main_arg0)) (m ((c : Thread nD τ).loc main_arg1)) := by
  refine (dats m 0 c).arrAt_eq_of_covers 2 _ (by decide +kernel) (fun t hf y => ?_)
  blk_simp
  rw [after0_2, outsAt0]
  frame_out
  refine (congrFun (Cert.Mm.point_nt _ _ _ _) y).trans (Cert.Mm.sum_congr₂ (fun k => ?_) (fun k => ?_))
  · blk_ext [iblk, V, ix_0, ix_2]
  · blk_ext [iblk, V, ix_1, ix_2]

end Cert.Kernel12Ideal.Mm

/-- The mixing's input projection. -/
theorem Cert.Mm.mix_in : Cert.algebraic_Kernel12Ideal_Reference12Ideal := fun m g m' g' _ hm =>
  Cert.Mm.agree (Cert.Kernel12Ideal.Value.run_blocks m g) (Cert.Reference12Ideal.Value.run m' g') fun c => by
    rw [Cert.Reference12Ideal.Read.val_main_v3_eq, (hm c).1, (hm c).2, Cert.Kernel12Ideal.Mm.final]
    funext i
    rw [Cert.Reference12Ideal.Read.val_main_v3_apply]
    exact Cert.Mm.sum_congr₂ (fun _ => congrArg _ (eq_ix2 _))
      (fun _ => (Cert.Reference12Ideal.Read.val_main_v2_apply _ _).trans (congrArg _ (eq_ix2 _)))

end
-- ==== Proof.Mm.Nn.lean ====
/- The calls that multiply by a weight. -/
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Mm.Spec
public import proofs.«01_k».proof.Defs

@[expose] public section

noncomputable section

open Idealize.ShloMosaic Idealize.ShloMosaic.TcCoe Idealize.ShloMosaic.Tactic

namespace Cert.Kernel10Ideal.Mm

open Cert.Kernel10Ideal Cert.Kernel10Ideal.Gen

theorem ix_0 : ∀ t : Fin cfg0.N, win0_0.index t = ![t.val / 2, 0] := by decide +kernel
theorem ix_1 : ∀ t : Fin cfg0.N, win0_1.index t = ![0, t.val % 2] := by decide +kernel
theorem ix_2 : ∀ t : Fin cfg0.N, win0_2.index t = ![t.val / 2, t.val % 2] := by decide +kernel

theorem final (m : (ℓ : Loc nD τ sig) → Buf (Elt Ideal) ℓ) (c : Dev nD) : (dats m 0 c).arrAt 2 cfg0.N
    = Cert.Mm.nn (m ((c : Thread nD τ).loc main_arg0)) (m ((c : Thread nD τ).loc main_arg1)) := by
  refine (dats m 0 c).arrAt_eq_of_covers 2 _ (by decide +kernel) (fun t hf y => ?_)
  blk_simp
  rw [after0_2, outsAt0]
  frame_out
  refine (congrFun (Cert.Mm.point_nn _ _ _ _) y).trans (Cert.Mm.sum_congr₂ (fun k => ?_) (fun k => ?_))
  · blk_ext [iblk, V, ix_0, ix_2]
  · blk_ext [iblk, V, ix_1, ix_2]

end Cert.Kernel10Ideal.Mm

/-- The down projection. -/
theorem Cert.Mm.down : Cert.algebraic_Kernel10Ideal_Reference10Ideal := fun m g m' g' _ hm =>
  Cert.Mm.agree (Cert.Kernel10Ideal.Value.run_blocks m g) (Cert.Reference10Ideal.Value.run m' g') fun c => by
    rw [Cert.Reference10Ideal.Read.val_main_v2_eq, (hm c).1, (hm c).2, Cert.Kernel10Ideal.Mm.final]
    funext i
    rw [Cert.Reference10Ideal.Read.val_main_v2_apply]
    exact Cert.Mm.sum_congr₂ (fun _ => congrArg _ (eq_ix2 _)) (fun _ => congrArg _ (eq_ix2 _))

namespace Cert.Kernel13Ideal.Mm

open Cert.Kernel13Ideal Cert.Kernel13Ideal.Gen

theorem ix_0 : ∀ t : Fin cfg0.N, win0_0.index t = ![t.val / 2, 0] := by decide +kernel
theorem ix_1 : ∀ t : Fin cfg0.N, win0_1.index t = ![0, t.val % 2] := by decide +kernel
theorem ix_2 : ∀ t : Fin cfg0.N, win0_2.index t = ![t.val / 2, t.val % 2] := by decide +kernel

theorem final (m : (ℓ : Loc nD τ sig) → Buf (Elt Ideal) ℓ) (c : Dev nD) : (dats m 0 c).arrAt 2 cfg0.N
    = Cert.Mm.nn (m ((c : Thread nD τ).loc main_arg0)) (m ((c : Thread nD τ).loc main_arg1)) := by
  refine (dats m 0 c).arrAt_eq_of_covers 2 _ (by decide +kernel) (fun t hf y => ?_)
  blk_simp
  rw [after0_2, outsAt0]
  frame_out
  refine (congrFun (Cert.Mm.point_nn _ _ _ _) y).trans (Cert.Mm.sum_congr₂ (fun k => ?_) (fun k => ?_))
  · blk_ext [iblk, V, ix_0, ix_2]
  · blk_ext [iblk, V, ix_1, ix_2]

end Cert.Kernel13Ideal.Mm

/-- The mixing's output projection. -/
theorem Cert.Mm.mix_out : Cert.algebraic_Kernel13Ideal_Reference13Ideal := fun m g m' g' _ hm =>
  Cert.Mm.agree (Cert.Kernel13Ideal.Value.run_blocks m g) (Cert.Reference13Ideal.Value.run m' g') fun c => by
    rw [Cert.Reference13Ideal.Read.val_main_v2_eq, (hm c).1, (hm c).2, Cert.Kernel13Ideal.Mm.final]
    funext i
    rw [Cert.Reference13Ideal.Read.val_main_v2_apply]
    exact Cert.Mm.sum_congr₂ (fun _ => congrArg _ (eq_ix2 _)) (fun _ => congrArg _ (eq_ix2 _))

end
-- ==== Proof.Mm.TnCol.lean ====
/- The calls that multiply the transpose of an array by another and leave the columns in blocks: each weight's gradient
   is one sum over the rows, and a block holds the columns of one device's part of the weight. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Mm.Spec
public import proofs.«01_k».proof.Defs

@[expose] public section

noncomputable section

namespace Cert.Kernel4Ideal.Mm

open Cert.Kernel4Ideal Cert.Kernel4Ideal.Gen Cert.Reference4Ideal.Read
open Idealize.ShloMosaic Idealize.ShloMosaic.TcCoe Idealize.ShloMosaic.Tactic
open scoped BigOperators

theorem ix_0 : ∀ t : Fin cfg0.N, win0_0.index t = ![0, t.val / 8] := by decide +kernel
theorem ix_1 : ∀ t : Fin cfg0.N, win0_1.index t = ![t.val % 8 / 4, 0, t.val % 4] := by decide +kernel
theorem ix_2 : ∀ t : Fin cfg0.N, win0_2.index t = ![t.val % 8 / 4, t.val % 4, t.val / 8, 0] := by decide +kernel

/-- Entry `(g, j, r, x)`: the sum over the rows, at column `1408 j + x` of the second array's part `g`. -/
def G (a : S2048x2048.Idx → EReal) (b : S2x2048x5632.Idx → EReal) : S2x4x2048x1408.Idx → EReal := fun i =>
  ∑ k : Fin 2048, a (ix2 k (i 2)) * b (ix3 (i 0) k ⟨(i 1).val * 1408 + (i 3).val, by
    have h1 : (i 1).val < 4 := (i 1).isLt; have h3 : (i 3).val < 1408 := (i 3).isLt; omega⟩)

theorem pay_at (x0 : Vec Ideal S2048x512 .bf16) (x1 : Vec Ideal S1x2048x1408 .bf16) (p q : Fin 1) (r : Fin 512) (x : Fin 1408) :
    k0_pay3 (F := Ideal) (k0_pay2 (F := Ideal) (k0_pay1 (F := Ideal)) x0 x1) (ix4 p q r x)
      = ∑ k : Fin 2048, x0 (ix2 k r) * x1 (ix3 0 k x) := by
  unfold_payloads
  pointwise

theorem final (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) (fun t hf y => ?_)
  blk_simp
  rw [after0_2, outsAt0]
  frame_out
  obtain ⟨p, q, r, x, rfl⟩ : ∃ (p q : Fin 1) (r : Fin 512) (x : Fin 1408), y = ix4 p q r x :=
    ⟨y 0, y 1, y 2, y 3, eq_ix4 y⟩
  rw [pay_at]
  unfold G
  refine Cert.Mm.sum_congr₂ (fun k => ?_) (fun k => ?_)
  · blk_ext [iblk, V, ix_0, ix_2]
  · blk_ext [iblk, V, ix_1, ix_2]

theorem ref (a : S2048x2048.Idx → EReal) (b : S2x2048x5632.Idx → EReal) : val_main_v13 (F := Ideal) a b = G a b := by
  funext i
  rw [val_main_v13_apply, val_main_v12_apply, val_main_v11_apply, val_main_v10_apply]
  unfold G
  refine Cert.Mm.sum_comm₂ (fun k => ?_) (fun k => ?_)
  · rw [val_main_v9_apply, val_main_v8_apply]; exact congrArg _ (by blk_ext)
  · exact congrArg _ (by blk_ext)

end Cert.Kernel4Ideal.Mm

/-- The gradient of the gate and the up projection's weight. -/
theorem Cert.Mm.dw_gate_up : Cert.algebraic_Kernel4Ideal_Reference4Ideal := fun m g m' g' _ hm =>
  Cert.Mm.agree (Cert.Kernel4Ideal.Value.run_blocks m g) (Cert.Reference4Ideal.Value.run m' g') fun c => by
    rw [Cert.Reference4Ideal.Read.val_main_v13_eq, (hm c).1, (hm c).2]
    exact (Cert.Kernel4Ideal.Mm.ref _ _).trans (Cert.Kernel4Ideal.Mm.final m c).symm

namespace Cert.Kernel14Ideal.Mm

open Cert.Kernel14Ideal Cert.Kernel14Ideal.Gen Cert.Reference14Ideal.Read
open Idealize.ShloMosaic Idealize.ShloMosaic.TcCoe Idealize.ShloMosaic.Tactic
open scoped BigOperators

theorem ix_0 : ∀ t : Fin cfg0.N, win0_0.index t = ![t.val / 4, 0, 0] := by decide +kernel
theorem ix_1 : ∀ t : Fin cfg0.N, win0_1.index t = ![t.val / 4, 0, t.val % 4] := by decide +kernel
theorem ix_2 : ∀ t : Fin cfg0.N, win0_2.index t = ![t.val / 4, t.val % 4, 0, 0] := by decide +kernel

/-- Entry `(g, j, r, x)`: the sum over branch `g`'s rows, at column `512 j + x` of the second array. -/
def G (a : S2x2048x1024.Idx → EReal) (b : S2x2048x2048.Idx → EReal) : S2x4x1024x512.Idx → EReal := fun i =>
  ∑ k : Fin 2048, a (ix3 (i 0) k (i 2)) * b (ix3 (i 0) k ⟨(i 1).val * 512 + (i 3).val, by
    have h1 : (i 1).val < 4 := (i 1).isLt; have h3 : (i 3).val < 512 := (i 3).isLt; omega⟩)

theorem pay_at (x0 : Vec Ideal S1x2048x1024 .bf16) (x1 : Vec Ideal S1x2048x512 .bf16) (p : Fin 1) (q : Fin 1) (r : Fin 1024) (x : Fin 512) :
    k0_pay3 (F := Ideal) (k0_pay2 (F := Ideal) (k0_pay1 (F := Ideal)) x0 x1) (ix4 p q r x)
      = ∑ k : Fin 2048, x0 (ix3 0 k r) * x1 (ix3 0 k x) := by
  unfold_payloads
  pointwise

theorem final (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) (fun t hf y => ?_)
  blk_simp
  rw [after0_2, outsAt0]
  frame_out
  obtain ⟨p, q, r, x, rfl⟩ : ∃ (p : Fin 1) (q : Fin 1) (r : Fin 1024) (x : Fin 512), y = ix4 p q r x :=
    ⟨y 0, y 1, y 2, y 3, eq_ix4 y⟩
  rw [pay_at]
  unfold G
  refine Cert.Mm.sum_congr₂ (fun k => ?_) (fun k => ?_)
  · blk_ext [iblk, V, ix_0, ix_2]
  · blk_ext [iblk, V, ix_1, ix_2]

theorem ref (a : S2x2048x1024.Idx → EReal) (b : S2x2048x2048.Idx → EReal) : val_main_v9 (F := Ideal) a b = G a b := by
  funext i
  rw [val_main_v9_apply, val_main_v8_apply, val_main_v7_apply, val_main_v6_apply]
  unfold G
  refine Cert.Mm.sum_comm₂ (fun k => ?_) (fun k => ?_)
  · exact congrArg _ (by blk_ext)
  · exact congrArg _ (by blk_ext)

end Cert.Kernel14Ideal.Mm

/-- The gradient of both mixing branches' output projections' weights. -/
theorem Cert.Mm.mix_dw_proj : Cert.algebraic_Kernel14Ideal_Reference14Ideal := fun m g m' g' _ hm =>
  Cert.Mm.agree (Cert.Kernel14Ideal.Value.run_blocks m g) (Cert.Reference14Ideal.Value.run m' g') fun c => by
    rw [Cert.Reference14Ideal.Read.val_main_v9_eq, (hm c).1, (hm c).2]
    exact (Cert.Kernel14Ideal.Mm.ref _ _).trans (Cert.Kernel14Ideal.Mm.final m c).symm

end
-- ==== Proof.Mm.NnCol.lean ====
/- The calls that multiply by a weight whose columns lie in blocks, one block for each device's part. -/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Mm.Spec
public import proofs.«01_k».proof.Defs

@[expose] public section

noncomputable section

namespace Cert.Kernel11Ideal.Mm

open Cert.Kernel11Ideal Cert.Kernel11Ideal.Gen Cert.Reference11Ideal.Read
open Idealize.ShloMosaic Idealize.ShloMosaic.TcCoe Idealize.ShloMosaic.Tactic
open scoped BigOperators

theorem ix_0 : ∀ t : Fin cfg0.N, win0_0.index t = ![t.val / 8, 0] := by decide +kernel
theorem ix_1 : ∀ t : Fin cfg0.N, win0_1.index t = ![t.val % 8 / 4, t.val % 4, 0, 0] := by decide +kernel
theorem ix_2 : ∀ t : Fin cfg0.N, win0_2.index t = ![t.val % 8 / 4, t.val / 8, t.val % 4] := by decide +kernel

/-- Entry `(g, r, x)`: the weight's column `x` is column `x % 1408` of its block `x / 1408`. -/
def G (a : S2048x2048.Idx → EReal) (b : S2x4x2048x1408.Idx → EReal) : S2x2048x5632.Idx → EReal := fun i =>
  ∑ k : Fin 2048, a (ix2 (i 1) k) * b (ix4 (i 0) ⟨(i 2).val / 1408, by
    have h2 : (i 2).val < 5632 := (i 2).isLt; omega⟩ k ⟨(i 2).val % 1408, Nat.mod_lt _ (by decide)⟩)

theorem pay_at (x0 : Vec Ideal S512x2048 .bf16) (x1 : Vec Ideal S1x1x2048x1408 .bf16) (p : Fin 1) (r : Fin 512) (x : Fin 1408) :
    k0_pay3 (F := Ideal) (k0_pay2 (F := Ideal) (k0_pay1 (F := Ideal)) x0 x1) (ix3 p r x)
      = ∑ k : Fin 2048, x0 (ix2 r k) * x1 (ix4 0 0 k x) := by
  unfold_payloads
  pointwise

theorem final (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) (fun t hf y => ?_)
  blk_simp
  rw [after0_2, outsAt0]
  frame_out
  obtain ⟨p, r, x, rfl⟩ : ∃ (p : Fin 1) (r : Fin 512) (x : Fin 1408), y = ix3 p r x :=
    ⟨y 0, y 1, y 2, eq_ix3 y⟩
  rw [pay_at]
  unfold G
  refine Cert.Mm.sum_congr₂ (fun k => ?_) (fun k => ?_)
  · blk_ext [iblk, V, ix_0, ix_2]
  · blk_ext [iblk, V, ix_1, ix_2]

theorem ref (a : S2048x2048.Idx → EReal) (b : S2x4x2048x1408.Idx → EReal) : val_main_v6 (F := Ideal) a b = G a b := by
  funext i
  rw [val_main_v6_apply, val_main_v5_apply, val_main_v4_apply]
  unfold G
  refine Cert.Mm.sum_congr₂ (fun k => ?_) (fun k => ?_)
  · exact congrArg _ (by blk_ext)
  · rw [val_main_v3_apply, val_main_v2_apply]; exact congrArg _ (by blk_ext)

end Cert.Kernel11Ideal.Mm

/-- The products with the gate and the up projection's weight. -/
theorem Cert.Mm.gate_up : Cert.algebraic_Kernel11Ideal_Reference11Ideal := fun m g m' g' _ hm =>
  Cert.Mm.agree (Cert.Kernel11Ideal.Value.run_blocks m g) (Cert.Reference11Ideal.Value.run m' g') fun c => by
    rw [Cert.Reference11Ideal.Read.val_main_v6_eq, (hm c).1, (hm c).2]
    exact (Cert.Kernel11Ideal.Mm.ref _ _).trans (Cert.Kernel11Ideal.Mm.final m c).symm

namespace Cert.Kernel16Ideal.Mm

open Cert.Kernel16Ideal Cert.Kernel16Ideal.Gen Cert.Reference16Ideal.Read
open Idealize.ShloMosaic Idealize.ShloMosaic.TcCoe Idealize.ShloMosaic.Tactic
open scoped BigOperators

theorem ix_0 : ∀ t : Fin cfg0.N, win0_0.index t = ![t.val % 8 / 4, t.val / 8, 0] := by decide +kernel
theorem ix_1 : ∀ t : Fin cfg0.N, win0_1.index t = ![t.val % 8 / 4, t.val % 4, 0, 0] := by decide +kernel
theorem ix_2 : ∀ t : Fin cfg0.N, win0_2.index t = ![t.val % 8 / 4, t.val / 8, t.val % 4] := by decide +kernel

/-- Entry `(g, r, x)`: the weight's column `x` is column `x % 512` of its block `x / 512`. -/
def G (a : S2x2048x1024.Idx → EReal) (b : S2x4x1024x512.Idx → EReal) : S2x2048x2048.Idx → EReal := fun i =>
  ∑ k : Fin 1024, a (ix3 (i 0) (i 1) k) * b (ix4 (i 0) ⟨(i 2).val / 512, by
    have h2 : (i 2).val < 2048 := (i 2).isLt; omega⟩ k ⟨(i 2).val % 512, Nat.mod_lt _ (by decide)⟩)

theorem pay_at (x0 : Vec Ideal S1x512x1024 .bf16) (x1 : Vec Ideal S1x1x1024x512 .bf16) (p : Fin 1) (r : Fin 512) (x : Fin 512) :
    k0_pay3 (F := Ideal) (k0_pay2 (F := Ideal) (k0_pay1 (F := Ideal)) x0 x1) (ix3 p r x)
      = ∑ k : Fin 1024, x0 (ix3 0 r k) * x1 (ix4 0 0 k x) := by
  unfold_payloads
  pointwise

theorem final (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) (fun t hf y => ?_)
  blk_simp
  rw [after0_2, outsAt0]
  frame_out
  obtain ⟨p, r, x, rfl⟩ : ∃ (p : Fin 1) (r : Fin 512) (x : Fin 512), y = ix3 p r x :=
    ⟨y 0, y 1, y 2, eq_ix3 y⟩
  rw [pay_at]
  unfold G
  refine Cert.Mm.sum_congr₂ (fun k => ?_) (fun k => ?_)
  · blk_ext [iblk, V, ix_0, ix_2]
  · blk_ext [iblk, V, ix_1, ix_2]

theorem ref (a : S2x2048x1024.Idx → EReal) (b : S2x4x1024x512.Idx → EReal) : val_main_v4 (F := Ideal) a b = G a b := by
  funext i
  rw [val_main_v4_apply]
  unfold G
  refine Cert.Mm.sum_congr₂ (fun k => ?_) (fun k => ?_)
  · exact congrArg _ (by blk_ext)
  · rw [val_main_v3_apply, val_main_v2_apply]; exact congrArg _ (by blk_ext)

end Cert.Kernel16Ideal.Mm

/-- Both mixing branches' output projections. -/
theorem Cert.Mm.mix_proj : Cert.algebraic_Kernel16Ideal_Reference16Ideal := fun m g m' g' _ hm =>
  Cert.Mm.agree (Cert.Kernel16Ideal.Value.run_blocks m g) (Cert.Reference16Ideal.Value.run m' g') fun c => by
    rw [Cert.Reference16Ideal.Read.val_main_v4_eq, (hm c).1, (hm c).2]
    exact (Cert.Kernel16Ideal.Mm.ref _ _).trans (Cert.Kernel16Ideal.Mm.final m c).symm

end
-- ==== Proof.Mm.Nk.lean ====
/- A call that multiplies by a weight and sums the contraction in two parts. -/
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Mm.Spec
public import proofs.«01_k».proof.Defs

@[expose] public section

noncomputable section

namespace Cert.Kernel7Ideal.Mm

open Cert.Kernel7Ideal Cert.Kernel7Ideal.Gen
open Idealize.ShloMosaic Idealize.ShloMosaic.TcCoe Idealize.ShloMosaic.Tactic
open scoped BigOperators

theorem ix_0 : ∀ t : Fin cfg0.N, win0_0.index t = ![t.val / 4, t.val % 2] := by decide +kernel
theorem ix_1 : ∀ t : Fin cfg0.N, win0_1.index t = ![t.val % 2, t.val / 2 % 2] := by decide +kernel
theorem ix_2 : ∀ t : Fin cfg0.N, win0_2.index t = ![t.val / 4, t.val / 2 % 2] := by decide +kernel

/-- One point's product. -/
def part (x0 : Vec Ideal S512x5632 .bf16) (x1 : Vec Ideal S5632x1024 .bf16) : Vec Ideal S512x1024 .f32 := fun y =>
  ∑ k : Fin 5632, x0 (ix2 (y 0) k) * x1 (ix2 k (y 1))

theorem pay_at (acc : Vec Ideal S512x1024 .f32) (x0 : Vec Ideal S512x5632 .bf16) (x1 : Vec Ideal S5632x1024 .bf16)
    (y : S512x1024.Idx) : k0_pay2 (F := Ideal) acc x0 x1 y = acc y + part x0 x1 y := by
  obtain ⟨r, x, rfl⟩ : ∃ (r : Fin 512) (x : Fin 1024), y = ix2 r x := ⟨y 0, y 1, eq_ix2 y⟩
  unfold part
  unfold_payloads
  pointwise

theorem zero_at (y : S512x1024.Idx) : k0_pay1 (F := Ideal) y = 0 := by
  unfold_payloads
  pointwise

variable (m : (ℓ : Loc nD τ sig) → Buf (Elt Ideal) ℓ) (c : Dev nD)

/-- At the last point of a run the block written back is the sum kept. -/
theorem out_eq (t : Fin cfg0.N) (h : t.val % 2 = 1) :
    (outsAt0 m c t.val t.isLt).1 = (outsAt0 m c t.val t.isLt).2 := by
  rw [outsAt0_B m c t (by omega) h]
  frame_out

theorem final : (dats m 0 c).arrAt 2 cfg0.N
    = Cert.Mm.nn (m ((c : Thread nD τ).loc main_arg0)) (m ((c : Thread nD τ).loc main_arg1)) := by
  refine (dats m 0 c).arrAt_eq_of_covers 2 _ (by decide +kernel) (fun t hf y => ?_)
  have h := (flush0_2 t).mp hf
  blk_simp
  rw [after0_2, out_eq m c t h, Pipeline.eq_sum_fin_of_reset_step_apply_of_flush (fun n h => (outsAt0 m c n h).2) 2
    (fun _ => 0) (fun t => part (iblk m c 0 t) (iblk m c 1 t))
    (fun t h y => by rw [outsAt0_A m c t h (by omega)]; frame_out; rw [pay_at, zero_at])
    (fun t h y => by rw [outsAt0_B m c t h (by omega)]; frame_out; rw [pay_at]; exact congrArg (· + _) (congrFun (Memref.IsWhole.read_unread _ _) y)) t h y, zero_add]
  unfold Cert.Mm.nn part
  refine Fin.sum_mul_add_congr fun s k hl => ?_
  congr 1
  · blk_ext [iblk, V, ix_0, ix_2]
  · blk_ext [iblk, V, ix_1, ix_2]

end Cert.Kernel7Ideal.Mm

/-- The gradient of the mixing's input projection's input. -/
theorem Cert.Mm.mix_du : Cert.algebraic_Kernel7Ideal_Reference7Ideal := fun m g m' g' _ hm =>
  Cert.Mm.agree (Cert.Kernel7Ideal.Value.run_blocks m g) (Cert.Reference7Ideal.Value.run m' g') fun c => by
    rw [Cert.Reference7Ideal.Read.val_main_v5_eq, (hm c).1, (hm c).2, Cert.Kernel7Ideal.Mm.final]
    funext i
    rw [Cert.Reference7Ideal.Read.val_main_v5_apply]
    exact Cert.Mm.sum_congr₂ (fun _ => congrArg _ (Idealize.ShloMosaic.eq_ix2 _))
      (fun _ => (Cert.Reference7Ideal.Read.val_main_v2_apply _ _).trans (congrArg _ (Idealize.ShloMosaic.eq_ix2 _)))

end
-- ==== Proof.Mm.DuCol.lean ====
/- The calls that multiply by the transpose of a weight whose columns lie in blocks, summing over the columns in parts:
   each point adds the products with two blocks. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Mm.Spec
public import proofs.«01_k».proof.Defs

@[expose] public section

noncomputable section

namespace Cert.Kernel5Ideal.Mm

open Cert.Kernel5Ideal Cert.Kernel5Ideal.Gen Cert.Reference5Ideal.Read
open Idealize.ShloMosaic Idealize.ShloMosaic.TcCoe Idealize.ShloMosaic.Tactic
open scoped BigOperators

theorem ix_0 : ∀ t : Fin cfg0.N, win0_0.index t = ![t.val % 4 / 2, t.val / 8, t.val % 2] := by decide +kernel
theorem ix_1 : ∀ t : Fin cfg0.N, win0_1.index t = ![t.val % 4 / 2, t.val % 2, t.val / 4 % 2, 0] := by decide +kernel
theorem ix_2 : ∀ t : Fin cfg0.N, win0_2.index t = ![t.val / 8, t.val / 4 % 2] := by decide +kernel

/-- One point's product: column `q` of the first block against column `q % 1408` of the weight's block `q / 1408`. -/
def part (x0 : Vec Ideal S1x512x2816 .bf16) (x1 : Vec Ideal S1x2x1024x1408 .bf16) : Vec Ideal S512x1024 .f32 := fun y =>
  ∑ q : Fin 2816, x0 (ix3 0 (y 0) q) * x1 (ix4 0 ⟨q.val / 1408, by omega⟩ (y 1) ⟨q.val % 1408, Nat.mod_lt _ (by decide)⟩)

theorem two_at (x0 : Vec Ideal S1x512x2816 .bf16) (x1 : Vec Ideal S1x2x1024x1408 .bf16) (y : S512x1024.Idx) :
    k0_pay1 (F := Ideal)
      (View.ld x0 (Rect.unit (s := S1x512x2816) ![0, 0, 0] S1x512x1408.size inb_S1x512x2816_S1x512x1408_0_0_0))
      (View.ld x1 (Rect.unit (s := S1x2x1024x1408) ![0, 0, 0, 0] S1x1x1024x1408.size inb_S1x2x1024x1408_S1x1x1024x1408_0_0_0_0))
      (View.ld x0 (Rect.unit (s := S1x512x2816) ![0, 0, 1408] S1x512x1408.size inb_S1x512x2816_S1x512x1408_0_0_1408))
      (View.ld x1 (Rect.unit (s := S1x2x1024x1408) ![0, 1, 0, 0] S1x1x1024x1408.size inb_S1x2x1024x1408_S1x1x1024x1408_0_1_0_0))
      y = part x0 x1 y := by
  obtain ⟨r, x, rfl⟩ : ∃ (r : Fin 512) (x : Fin 1024), y = ix2 r x := ⟨y 0, y 1, eq_ix2 y⟩
  unfold part
  unfold_payloads
  pointwise
  refine Eq.trans (congrArg₂ (· + ·) (Fin.sum_fin_congr fun k => ?_) (Fin.sum_fin_congr fun k => ?_))
    (Fin.sum_univ_add (a := 1408) (b := 1408) _).symm
  · exact congrArg₂ (· * ·) rfl (congrArg₂ (fun e l => x1 (ix4 0 e x l)) (Fin.ext (by dsimp; omega)) (Fin.ext (by dsimp; omega)))
  · exact congrArg₂ (· * ·) rfl (congrArg₂ (fun e l => x1 (ix4 0 e x l)) (Fin.ext (by dsimp; omega)) (Fin.ext (by dsimp; omega)))

variable (m : (ℓ : Loc nD τ sig) → Buf (Elt Ideal) ℓ) (c : Dev nD)

/-- At the last point of a run the block written back is the sum kept. -/
theorem out_eq (t : Fin cfg0.N) (h : t.val % 4 = 3) :
    (outsAt0 m c t.val t.isLt).1 = (outsAt0 m c t.val t.isLt).2 := by
  rw [outsAt0_C m c t (by omega) (by omega) h]
  frame_out

theorem first_at (x0 : Vec Ideal S1x512x2816 .bf16) (x1 : Vec Ideal S1x2x1024x1408 .bf16) (y : S512x1024.Idx) :
    k0_pay2 (F := Ideal)
      (View.ld x0 (Rect.unit (s := S1x512x2816) ![0, 0, 0] S1x512x1408.size inb_S1x512x2816_S1x512x1408_0_0_0))
      (View.ld x1 (Rect.unit (s := S1x2x1024x1408) ![0, 0, 0, 0] S1x1x1024x1408.size inb_S1x2x1024x1408_S1x1x1024x1408_0_0_0_0))
      (View.ld x0 (Rect.unit (s := S1x512x2816) ![0, 0, 1408] S1x512x1408.size inb_S1x512x2816_S1x512x1408_0_0_1408))
      (View.ld x1 (Rect.unit (s := S1x2x1024x1408) ![0, 1, 0, 0] S1x1x1024x1408.size inb_S1x2x1024x1408_S1x1x1024x1408_0_1_0_0))
      y = 0 + part x0 x1 y := by
  rw [zero_add, ← two_at]
  unfold k0_pay2
  pointwise

theorem next_at (x0 : Vec Ideal S1x512x2816 .bf16) (x1 : Vec Ideal S1x2x1024x1408 .bf16) (acc : Vec Ideal S512x1024 .f32)
    (y : S512x1024.Idx) : k0_pay3 (F := Ideal)
      (View.ld x0 (Rect.unit (s := S1x512x2816) ![0, 0, 0] S1x512x1408.size inb_S1x512x2816_S1x512x1408_0_0_0))
      (View.ld x1 (Rect.unit (s := S1x2x1024x1408) ![0, 0, 0, 0] S1x1x1024x1408.size inb_S1x2x1024x1408_S1x1x1024x1408_0_0_0_0))
      (View.ld x0 (Rect.unit (s := S1x512x2816) ![0, 0, 1408] S1x512x1408.size inb_S1x512x2816_S1x512x1408_0_0_1408))
      (View.ld x1 (Rect.unit (s := S1x2x1024x1408) ![0, 1, 0, 0] S1x1x1024x1408.size inb_S1x2x1024x1408_S1x1x1024x1408_0_1_0_0))
      acc y = acc y + part x0 x1 y := by
  rw [← two_at]
  unfold k0_pay3
  pointwise

/-- Entry `(r, x)`: the sum over the columns of both parts, one part after the other, block after block. -/
def G (a : S2x2048x5632.Idx → EReal) (b : S2x4x2048x1408.Idx → EReal) : S2048x2048.Idx → EReal := fun i =>
  ∑ l : Fin 11264, a (ix3 ⟨l.val / 5632, by omega⟩ (i 0) ⟨l.val % 5632, Nat.mod_lt _ (by decide)⟩)
    * b (ix4 ⟨l.val / 5632, by omega⟩ ⟨l.val / 1408 % 4, Nat.mod_lt _ (by decide)⟩ (i 1) ⟨l.val % 1408, Nat.mod_lt _ (by decide)⟩)

theorem final : (dats m 0 c).arrAt 2 cfg0.N = G (m ((c : Thread nD τ).loc main_arg0)) (m ((c : Thread nD τ).loc main_arg1)) := by
  refine (dats m 0 c).arrAt_eq_of_covers 2 _ (by decide +kernel) (fun t hf y => ?_)
  have h := (flush0_2 t).mp hf
  blk_simp
  rw [after0_2, out_eq m c t h, Pipeline.eq_sum_fin_of_reset_step_apply_of_flush (fun n h => (outsAt0 m c n h).2) 4
    (fun _ => 0) (fun t => part (iblk m c 0 t) (iblk m c 1 t))
    (fun t h y => by rw [outsAt0_A m c t h (by omega) (by omega)]; frame_out; exact first_at _ _ _)
    (fun t h y => by
      by_cases h3 : t.val % 4 = 3
      · rw [outsAt0_C m c t h (by omega) h3]
        frame_out
        exact (next_at _ _ _ _).trans (congrArg (· + _) (congrFun (Memref.IsWhole.read_unread _ _) y))
      · rw [outsAt0_B m c t h (by omega) h3]
        frame_out
        exact (next_at _ _ _ _).trans (congrArg (· + _) (congrFun (Memref.IsWhole.read_unread _ _) y))) t h y, zero_add]
  unfold G part
  refine Fin.sum_mul_add_congr fun s k hl => ?_
  congr 1
  · blk_ext [iblk, V, ix_0, ix_2]
  · blk_ext [iblk, V, ix_1, ix_2]

theorem ref (a : S2x2048x5632.Idx → EReal) (b : S2x4x2048x1408.Idx → EReal) : val_main_v10 (F := Ideal) a b = G a b := by
  funext i
  rw [val_main_v10_apply]
  unfold G
  refine Cert.Mm.sum_congr₂ (fun k => ?_) (fun k => ?_)
  · rw [val_main_v9_apply, val_main_v8_apply]; exact congrArg _ (by blk_ext)
  · rw [val_main_v3_apply, val_main_v2_apply]; exact congrArg _ (by blk_ext)

end Cert.Kernel5Ideal.Mm

/-- The gradient of the second feed-forward layer's input. -/
theorem Cert.Mm.du : Cert.algebraic_Kernel5Ideal_Reference5Ideal := fun m g m' g' _ hm =>
  Cert.Mm.agree (Cert.Kernel5Ideal.Value.run_blocks m g) (Cert.Reference5Ideal.Value.run m' g') fun c => by
    rw [Cert.Reference5Ideal.Read.val_main_v10_eq, (hm c).1, (hm c).2]
    exact (Cert.Kernel5Ideal.Mm.ref _ _).trans (Cert.Kernel5Ideal.Mm.final m c).symm

end
-- ==== Proof.Mm.DoCol.lean ====
/- The gradient of the mixing's projections' input: both parts multiplied by the transpose of their weight, whose columns lie
   in blocks, summing one block after the other. -/
module

public import proofs.«01_k».proof.Proof.Gen.Kernel15Ideal.Value
public import proofs.«01_k».proof.Proof.Gen.Reference15Ideal.Run
public import proofs.«01_k».proof.Proof.Gen.Reference15Ideal.Read
public import proofs.«01_k».proof.Proof.Mm.Spec
public import proofs.«01_k».proof.Defs

@[expose] public section

noncomputable section

namespace Cert.Kernel15Ideal.Mm

open Cert.Kernel15Ideal Cert.Kernel15Ideal.Gen Cert.Reference15Ideal.Read
open Idealize.ShloMosaic Idealize.ShloMosaic.TcCoe Idealize.ShloMosaic.Tactic
open scoped BigOperators

theorem ix_0 : ∀ t : Fin cfg0.N, win0_0.index t = ![t.val / 4 % 2, t.val / 8, t.val % 4] := by decide +kernel
theorem ix_1 : ∀ t : Fin cfg0.N, win0_1.index t = ![t.val / 4 % 2, t.val % 4, 0, 0] := by decide +kernel
theorem ix_2 : ∀ t : Fin cfg0.N, win0_2.index t = ![t.val / 4 % 2, t.val / 8, 0] := by decide +kernel

/-- One point's product. -/
def part (x0 : Vec Ideal S1x512x512 .bf16) (x1 : Vec Ideal S1x1x1024x512 .bf16) : Vec Ideal S512x1024 .f32 := fun y =>
  ∑ q : Fin 512, x0 (ix3 0 (y 0) q) * x1 (ix4 0 0 (y 1) q)

theorem pay_at (acc : Vec Ideal S512x1024 .f32) (x0 : Vec Ideal S1x512x512 .bf16) (x1 : Vec Ideal S1x1x1024x512 .bf16)
    (y : S512x1024.Idx) : k0_pay2 (F := Ideal) acc x0 x1 y = acc y + part x0 x1 y := by
  obtain ⟨r, x, rfl⟩ : ∃ (r : Fin 512) (x : Fin 1024), y = ix2 r x := ⟨y 0, y 1, eq_ix2 y⟩
  unfold part
  unfold_payloads
  pointwise

theorem zero_at (y : S512x1024.Idx) : k0_pay1 (F := Ideal) y = 0 := by
  unfold_payloads
  pointwise

theorem cast_at (acc : Vec Ideal S512x1024 .f32) (r : Fin 512) (x : Fin 1024) :
    k0_pay3 (F := Ideal) acc (ix3 0 r x) = acc (ix2 r x) := by
  unfold_payloads
  pointwise

variable (m : (ℓ : Loc nD τ sig) → Buf (Elt Ideal) ℓ) (c : Dev nD)

/-- At the last point of a run the block written back is the sum kept. -/
theorem out_eq (t : Fin cfg0.N) (h : t.val % 4 = 3) :
    (outsAt0 m c t.val t.isLt).1 = k0_pay3 (F := Ideal) (outsAt0 m c t.val t.isLt).2 := by
  rw [outsAt0_C m c t (by omega) h]
  frame_out

/-- Entry `(e, r, x)`: the sum over the columns of part `e`, block after block. -/
def G (a : S2x2048x2048.Idx → EReal) (b : S2x4x1024x512.Idx → EReal) : S2x2048x1024.Idx → EReal := fun i =>
  ∑ l : Fin 2048, a (ix3 (i 0) (i 1) l)
    * b (ix4 (i 0) ⟨l.val / 512, by omega⟩ (i 2) ⟨l.val % 512, Nat.mod_lt _ (by decide)⟩)

theorem final : (dats m 0 c).arrAt 2 cfg0.N = G (m ((c : Thread nD τ).loc main_arg0)) (m ((c : Thread nD τ).loc main_arg1)) := by
  refine (dats m 0 c).arrAt_eq_of_covers 2 _ (by decide +kernel) (fun t hf y => ?_)
  have h := (flush0_2 t).mp hf
  blk_simp
  obtain ⟨e, r, x, rfl⟩ : ∃ (e : Fin 1) (r : Fin 512) (x : Fin 1024), y = ix3 e r x := ⟨y 0, y 1, y 2, eq_ix3 y⟩
  obtain rfl : e = 0 := Subsingleton.elim _ _
  rw [after0_2, out_eq m c t h]
  refine (cast_at _ r x).trans ?_
  rw [Pipeline.eq_sum_fin_of_reset_step_apply_of_flush (fun n h => (outsAt0 m c n h).2) 4
    (fun _ => 0) (fun t => part (iblk m c 0 t) (iblk m c 1 t))
    (fun t h y => by rw [outsAt0_A m c t h (by omega)]; frame_out; rw [pay_at, zero_at])
    (fun t h y => by
      by_cases h3 : t.val % 4 = 3
      · rw [outsAt0_C m c t h h3]
        frame_out
        exact (pay_at _ _ _ _).trans (congrArg (· + _) (congrFun (Memref.IsWhole.read_unread _ _) y))
      · rw [outsAt0_B m c t h h3]
        frame_out
        exact (pay_at _ _ _ _).trans (congrArg (· + _) (congrFun (Memref.IsWhole.read_unread _ _) y))) t h (ix2 r x), zero_add]
  unfold G part
  refine Fin.sum_mul_add_congr fun s k hl => ?_
  congr 1
  · blk_ext [iblk, V, ix_0, ix_2]
  · blk_ext [iblk, V, ix_1, ix_2]

theorem ref (a : S2x2048x2048.Idx → EReal) (b : S2x4x1024x512.Idx → EReal) : val_main_v6 (F := Ideal) a b = G a b := by
  funext i
  rw [val_main_v6_apply]
  unfold G
  refine Cert.Mm.sum_congr₂ (fun k => ?_) (fun k => ?_)
  · exact congrArg _ (by blk_ext)
  · rw [val_main_v3_apply, val_main_v2_apply]; exact congrArg _ (by blk_ext)

end Cert.Kernel15Ideal.Mm

/-- The gradient of the mixing branches' outputs. -/
theorem Cert.Mm.mix_do : Cert.algebraic_Kernel15Ideal_Reference15Ideal := fun m g m' g' _ hm =>
  Cert.Mm.agree (Cert.Kernel15Ideal.Value.run_blocks m g) (Cert.Reference15Ideal.Value.run m' g') fun c => by
    rw [Cert.Reference15Ideal.Read.val_main_v6_eq, (hm c).1, (hm c).2]
    exact (Cert.Kernel15Ideal.Mm.ref _ _).trans (Cert.Kernel15Ideal.Mm.final m c).symm

end
-- ==== Proof.Mm.Du0.lean ====
/- The first part of the gradient of the first feed-forward layer's input. -/
module

public import proofs.«01_k».proof.Proof.Gen.Kernel17Ideal.Value
public import proofs.«01_k».proof.Proof.Gen.Reference17Ideal.Run
public import proofs.«01_k».proof.Proof.Gen.Reference17Ideal.Read
public import proofs.«01_k».proof.Proof.Mm.DuCol
public import proofs.«01_k».proof.Defs

@[expose] public section

noncomputable section

namespace Cert.Kernel17Ideal.Mm

open Cert.Kernel17Ideal Cert.Kernel17Ideal.Gen Cert.Reference17Ideal.Read
open Idealize.ShloMosaic Idealize.ShloMosaic.TcCoe Idealize.ShloMosaic.Tactic
open scoped BigOperators

theorem ix_0 : ∀ t : Fin cfg0.N, win0_0.index t = ![0, t.val / 4, t.val % 2] := by decide +kernel
theorem ix_1 : ∀ t : Fin cfg0.N, win0_1.index t = ![0, t.val % 2, t.val / 2 % 2, 0] := by decide +kernel
theorem ix_2 : ∀ t : Fin cfg0.N, win0_2.index t = ![t.val / 4, t.val / 2 % 2] := by decide +kernel

variable (m : (ℓ : Loc nD τ sig) → Buf (Elt Ideal) ℓ) (c : Dev nD)

/-- At the last point of a run the block written back is the sum kept. -/
theorem out_eq (t : Fin cfg0.N) (h : t.val % 2 = 1) :
    (outsAt0 m c t.val t.isLt).1 = (outsAt0 m c t.val t.isLt).2 := by
  rw [outsAt0_B m c t (by omega) h h]
  frame_out

/-- Entry `(r, x)`: the sum over the columns of part 0, block after block. -/
def G (a : S2x2048x5632.Idx → EReal) (b : S1x4x2048x1408.Idx → EReal) : S2048x2048.Idx → EReal := fun i =>
  ∑ l : Fin 5632, a (ix3 0 (i 0) l)
    * b (ix4 0 ⟨l.val / 1408, by omega⟩ (i 1) ⟨l.val % 1408, Nat.mod_lt _ (by decide)⟩)

theorem final : (dats m 0 c).arrAt 2 cfg0.N = G (m ((c : Thread nD τ).loc main_arg0)) (m ((c : Thread nD τ).loc main_arg1)) := by
  refine (dats m 0 c).arrAt_eq_of_covers 2 _ (by decide +kernel) (fun t hf y => ?_)
  have h := (flush0_2 t).mp hf
  blk_simp
  rw [after0_2, out_eq m c t h, Pipeline.eq_sum_fin_of_reset_step_apply_of_flush (fun n h => (outsAt0 m c n h).2) 2
    (fun _ => 0) (fun t => Cert.Kernel5Ideal.Mm.part (iblk m c 0 t) (iblk m c 1 t))
    (fun t h y => by
      rw [outsAt0_A m c t h (by omega) (by omega)]
      frame_out
      exact Cert.Kernel5Ideal.Mm.first_at _ _ _)
    (fun t h y => by
      rw [outsAt0_B m c t h (by omega) (by omega)]
      frame_out
      exact (Cert.Kernel5Ideal.Mm.next_at _ _ _ _).trans
        (congrArg (· + _) (congrFun (Memref.IsWhole.read_unread _ _) y))) t h y, zero_add]
  unfold G Cert.Kernel5Ideal.Mm.part
  refine Fin.sum_mul_add_congr fun s k hl => ?_
  congr 1
  · blk_ext [iblk, V, ix_0, ix_2]
  · blk_ext [iblk, V, ix_1, ix_2]

theorem ref (a : S2x2048x5632.Idx → EReal) (b : S1x4x2048x1408.Idx → EReal) : val_main_v8 (F := Ideal) a b = G a b := by
  funext i
  rw [val_main_v8_apply]
  unfold G
  refine Cert.Mm.sum_congr₂ (fun k => ?_) (fun k => ?_)
  · rw [val_main_v7_apply, val_main_v2_apply, val_main_v1_apply]; exact congrArg _ (by blk_ext)
  · rw [val_main_v5_apply, val_main_v4_apply]; exact congrArg _ (by blk_ext)

end Cert.Kernel17Ideal.Mm

/-- The part of the first feed-forward layer's input's gradient that comes from the gate. -/
theorem Cert.Mm.du_0 : Cert.algebraic_Kernel17Ideal_Reference17Ideal := fun m g m' g' _ hm =>
  Cert.Mm.agree (Cert.Kernel17Ideal.Value.run_blocks m g) (Cert.Reference17Ideal.Value.run m' g') fun c => by
    rw [Cert.Reference17Ideal.Read.val_main_v8_eq, (hm c).1, (hm c).2]
    exact (Cert.Kernel17Ideal.Mm.ref _ _).trans (Cert.Kernel17Ideal.Mm.final m c).symm

end
-- ==== Proof.Mm.Du1.lean ====
/- The second part of the gradient of the first feed-forward layer's input, added to the first. -/
module

public import proofs.«01_k».proof.Proof.Gen.Kernel18Ideal.Value
public import proofs.«01_k».proof.Proof.Gen.Reference18Ideal.Run
public import proofs.«01_k».proof.Proof.Gen.Reference18Ideal.Read
public import proofs.«01_k».proof.Proof.Mm.DuCol
public import proofs.«01_k».proof.Defs

@[expose] public section

noncomputable section

namespace Cert.Kernel18Ideal.Mm

open Cert.Kernel18Ideal Cert.Kernel18Ideal.Gen Cert.Reference18Ideal.Read
open Idealize.ShloMosaic Idealize.ShloMosaic.TcCoe Idealize.ShloMosaic.Tactic
open scoped BigOperators

theorem ix_0 : ∀ t : Fin cfg0.N, win0_0.index t = ![1, t.val / 4, t.val % 2] := by decide +kernel
theorem ix_1 : ∀ t : Fin cfg0.N, win0_1.index t = ![0, t.val % 2, t.val / 2 % 2, 0] := by decide +kernel
theorem ix_2 : ∀ t : Fin cfg0.N, win0_2.index t = ![t.val / 4, t.val / 2 % 2] := by decide +kernel
theorem ix_3 : ∀ t : Fin cfg0.N, win0_3.index t = ![t.val / 4, t.val / 2 % 2] := by decide +kernel

variable (m : (ℓ : Loc nD τ sig) → Buf (Elt Ideal) ℓ) (c : Dev nD)

open Cert.Kernel5Ideal.Mm (part next_at)

/-- The first point of a run adds its product to the block of the first part. -/
theorem kept_A (t : Fin cfg0.N) (h : t.val % 2 = 0) (y : S512x1024.Idx) : (outsAt0 m c t.val t.isLt).2 y
    = HAdd.hAdd (α := EReal) (β := EReal) (γ := EReal) (iblk m c 2 t y) (part (iblk m c 0 t) (iblk m c 1 t) y) := by
  rw [outsAt0_A m c t h (by omega) (by omega)]
  frame_out
  exact next_at _ _ _ _

/-- The second adds its product to what the first left, and that is written back. -/
theorem out_B (t : Fin cfg0.N) (h : t.val % 2 = 1) (y : S512x1024.Idx) : (outsAt0 m c t.val t.isLt).1 y
    = (outsAt0 m c (t.val - 1) (Nat.lt_of_le_of_lt (Nat.sub_le _ _) t.isLt)).2 y + part (iblk m c 0 t) (iblk m c 1 t) y := by
  rw [outsAt0_B m c t (by omega) h h]
  frame_out
  exact (next_at _ _ _ _).trans (congrArg (· + _) (congrFun (Memref.IsWhole.read_unread _ _) y))

/-- Entry `(r, x)`: the sum over the columns of part 1, block after block, added to what was there. -/
def G (a : S2x2048x5632.Idx → EReal) (b : S1x4x2048x1408.Idx → EReal) (u : S2048x2048.Idx → EReal) : S2048x2048.Idx → EReal := fun i =>
  u (ix2 (i 0) (i 1)) + ∑ l : Fin 5632, a (ix3 1 (i 0) l)
    * b (ix4 0 ⟨l.val / 1408, by omega⟩ (i 1) ⟨l.val % 1408, Nat.mod_lt _ (by decide)⟩)

theorem final : (dats m 0 c).arrAt 3 cfg0.N = G (m ((c : Thread nD τ).loc main_arg0)) (m ((c : Thread nD τ).loc main_arg1))
    (m ((c : Thread nD τ).loc main_arg2)) := by
  refine (dats m 0 c).arrAt_eq_of_covers 3 _ (by decide +kernel) (fun t hf y => ?_)
  have h := (flush0_3 t).mp hf
  blk_simp
  rw [after0_3, out_B m c t h]
  have ht : t.val - 1 < cfg0.N := Nat.lt_of_le_of_lt (Nat.sub_le _ _) t.isLt
  refine (congrArg (· + part (iblk m c 0 t) (iblk m c 1 t) y) (kept_A m c ⟨t.val - 1, ht⟩ (by dsimp; omega) y)).trans ?_
  rw [add_assoc]
  unfold G
  refine congrArg₂ (· + ·) ?_ (Eq.trans ?_ (Fin.sum_mul_add_congr (M := EReal) (S := 2) (n := 2816)
    (F := fun s k => HMul.hMul (α := EReal) (β := EReal) (γ := EReal) (iblk m c 0 ⟨t.val - 1 + s.val, by omega⟩ (ix3 0 (y 0) k))
      (iblk m c 1 ⟨t.val - 1 + s.val, by omega⟩ (ix4 0 ⟨k.val / 1408, by omega⟩ (y 1) ⟨k.val % 1408, Nat.mod_lt _ (by decide)⟩)))
    fun s k hl => ?_))
  · blk_ext [iblk, V, ix_2, ix_3]
  · rw [Fin.sum_univ_two]
    have e : (⟨t.val - 1 + (1 : Fin 2).val, by omega⟩ : Fin cfg0.N) = t := Fin.ext (by dsimp; omega)
    rw [e]
    rfl
  · congr 1
    · blk_ext [iblk, V, ix_0, ix_3]
    · blk_ext [iblk, V, ix_1, ix_3]

theorem ref (a : S2x2048x5632.Idx → EReal) (b : S1x4x2048x1408.Idx → EReal) (u : S2048x2048.Idx → EReal) :
    val_main_v9 (F := Ideal) a b u = G a b u := by
  funext i
  rw [val_main_v9_apply, val_main_v8_apply]
  unfold G
  refine congrArg₂ (· + ·) (congrArg u (eq_ix2 _)) (Cert.Mm.sum_congr₂ (fun k => ?_) (fun k => ?_))
  · rw [val_main_v7_apply, val_main_v2_apply, val_main_v1_apply]; exact congrArg _ (by blk_ext)
  · rw [val_main_v5_apply, val_main_v4_apply]; exact congrArg _ (by blk_ext)

end Cert.Kernel18Ideal.Mm

/-- The part that comes from the up projection, added to the first. -/
theorem Cert.Mm.du_1 : Cert.algebraic_Kernel18Ideal_Reference18Ideal := fun m g m' g' _ hm =>
  Cert.Mm.agree (Cert.Kernel18Ideal.Value.run_blocks m g) (Cert.Reference18Ideal.Value.run m' g') fun c => by
    rw [Cert.Reference18Ideal.Read.val_main_v9_eq, (hm c).1, (hm c).2.1, (hm c).2.2]
    exact (Cert.Kernel18Ideal.Mm.ref _ _ _).trans (Cert.Kernel18Ideal.Mm.final m c).symm

end
-- ==== Proof.Mm.Gu1.lean ====
/- The second half of the first feed-forward layer's two projections, written beside the first half. -/
module

public import proofs.«01_k».proof.Proof.Gen.Kernel19Ideal.Value
public import proofs.«01_k».proof.Proof.Gen.Reference19Ideal.Run
public import proofs.«01_k».proof.Proof.Gen.Reference19Ideal.Read
public import proofs.«01_k».proof.Proof.Mm.Spec
public import proofs.«01_k».proof.Defs

@[expose] public section

noncomputable section

namespace Cert.Kernel19Ideal.Mm

open Cert.Kernel19Ideal Cert.Kernel19Ideal.Gen Cert.Reference19Ideal.Read
open Idealize.ShloMosaic Idealize.ShloMosaic.TcCoe Idealize.ShloMosaic.Tactic
open scoped BigOperators

theorem ix_0 : ∀ t : Fin cfg0.N, win0_0.index t = ![t.val / 4, 0] := by decide +kernel
theorem ix_1 : ∀ t : Fin cfg0.N, win0_1.index t = ![0, t.val % 4, 0, 0] := by decide +kernel
theorem ix_2 : ∀ t : Fin cfg0.N, win0_2.index t = ![1, t.val / 4, t.val % 4] := by decide +kernel

/-- Entry `(1, r, x)`: the weight's column `x` is column `x % 1408` of its block `x / 1408`. Entry `(0, r, x)` is as given. -/
def G (a : S2048x2048.Idx → EReal) (b : S1x4x2048x1408.Idx → EReal) (u : S2x2048x5632.Idx → EReal) : S2x2048x5632.Idx → EReal := fun i =>
  if (i 0).val = 1 then ∑ k : Fin 2048, a (ix2 (i 1) k) * b (ix4 0 ⟨(i 2).val / 1408, by
    have h2 : (i 2).val < 5632 := (i 2).isLt; omega⟩ k ⟨(i 2).val % 1408, Nat.mod_lt _ (by decide)⟩) else u i

theorem pay_at (x0 : Vec Ideal S512x2048 .bf16) (x1 : Vec Ideal S1x1x2048x1408 .bf16) (p : Fin 1) (r : Fin 512) (x : Fin 1408) :
    k0_pay3 (F := Ideal) (k0_pay2 (F := Ideal) (k0_pay1 (F := Ideal)) x0 x1) (ix3 p r x)
      = ∑ k : Fin 2048, x0 (ix2 r k) * x1 (ix4 0 0 k x) := by
  unfold_payloads
  pointwise

variable (m : (ℓ : Loc nD τ sig) → Buf (Elt Ideal) ℓ) (c : Dev nD)

/-- The call writes over a copy of its third argument. -/
theorem entry : V m c main_v0 = m ((c : Thread nD τ).loc main_arg2) := by
  unfold V hostOps0
  after_results
  rfl

theorem final : (dats m 0 c).arrAt 2 cfg0.N = G (m ((c : Thread nD τ).loc main_arg0)) (m ((c : Thread nD τ).loc main_arg1))
    (m ((c : Thread nD τ).loc main_arg2)) := by
  refine (dats m 0 c).arrAt_eq_of_coversWhere_of_agree 2 _ (fun β => β (0 : Fin 3) = 1) (by decide +kernel) (fun t hf y => ?_)
    (fun j hj => ?_)
  · blk_simp
    rw [after0_2, outsAt0]
    frame_out
    obtain ⟨p, r, x, rfl⟩ : ∃ (p : Fin 1) (r : Fin 512) (x : Fin 1408), y = ix3 p r x :=
      ⟨y 0, y 1, y 2, eq_ix3 y⟩
    rw [pay_at]
    unfold G
    refine Eq.trans ?_ (if_pos ?_).symm
    · refine Cert.Mm.sum_congr₂ (fun k => ?_) (fun k => ?_)
      · blk_ext [iblk, V_main_arg0, ix_0, ix_2]
      · blk_ext [iblk, V_main_arg1, ix_1, ix_2]
    · blk_simp [ix_2]
  · rw [A_eq]
    refine (congrFun (entry m c) _).trans ?_
    unfold G
    exact (if_neg fun h => hj ((Nat.div_one _).trans h)).symm

theorem ref (a : S2048x2048.Idx → EReal) (b : S1x4x2048x1408.Idx → EReal) (u : S2x2048x5632.Idx → EReal) :
    val_main_v9 (F := Ideal) a b u = G a b u := by
  funext i
  have h0 : (i 0).val < 2 := (i 0).isLt
  have h1 : (i 1).val < 2048 := (i 1).isLt
  have h2 : (i 2).val < 5632 := (i 2).isLt
  unfold val_main_v9 G
  by_cases h : (i 0).val = 1
  · rw [if_pos h]
    refine (concatenate_pair_apply_right (t := S2x2048x5632) (s₁ := Cert.Reference19Ideal.S1x2048x5632) (s₂ := Cert.Reference19Ideal.S1x2048x5632) 0
      (val_main_v7 (F := Ideal) u) (val_main_v8 (F := Ideal) a b) _ i rfl rfl
      (ix3 (0 : Fin 1) (⟨(i 1).val, h1⟩ : Fin 2048) (⟨(i 2).val, h2⟩ : Fin 5632)) (fun d hd => ?_) (by show 0 + 1 = (i 0).val; omega)).trans ?_
    · match d with
      | ⟨0, _⟩ => exact absurd rfl hd
      | ⟨1, _⟩ => rfl
      | ⟨2, _⟩ => rfl
    rw [val_main_v8_apply, val_main_v6_apply]
    refine Cert.Mm.sum_congr₂ (fun k => ?_) (fun k => ?_)
    · rw [val_main_v2_apply]; exact congrArg _ (by blk_ext)
    · rw [val_main_v5_apply, val_main_v4_apply]; exact congrArg _ (by blk_ext)
  · rw [if_neg h]
    refine (concatenate_pair_apply_left (t := S2x2048x5632) (s₁ := Cert.Reference19Ideal.S1x2048x5632) (s₂ := Cert.Reference19Ideal.S1x2048x5632) 0
      (val_main_v7 (F := Ideal) u) (val_main_v8 (F := Ideal) a b) _ i rfl
      (ix3 (0 : Fin 1) (⟨(i 1).val, h1⟩ : Fin 2048) (⟨(i 2).val, h2⟩ : Fin 5632)) (fun d => ?_)).trans ?_
    · match d with
      | ⟨0, _⟩ => show 0 = (i 0).val; omega
      | ⟨1, _⟩ => rfl
      | ⟨2, _⟩ => rfl
    rw [val_main_v7_apply, val_main_v1_apply, val_main_v0_apply]
    exact congrArg u (by blk_ext)

end Cert.Kernel19Ideal.Mm

/-- The up projection, beside the gate that was there. -/
theorem Cert.Mm.gate_up_1 : Cert.algebraic_Kernel19Ideal_Reference19Ideal := fun m g m' g' _ hm =>
  Cert.Mm.agree (Cert.Kernel19Ideal.Value.run_blocks m g) (Cert.Reference19Ideal.Value.run m' g') fun c => by
    rw [Cert.Reference19Ideal.Read.val_main_v9_eq, (hm c).1, (hm c).2.1, (hm c).2.2]
    exact (Cert.Kernel19Ideal.Mm.ref _ _ _).trans (Cert.Kernel19Ideal.Mm.final m c).symm

end
-- ==== Proof.Mm.Frames.lean ====
/- The frames of the matrix products: every call runs to the end, faults nowhere, leaves its arguments as they were and every
   semaphore at zero, at the machine's numbers and at ideal ones, from one run at any numbers; and each reference does. -/
module

public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19Ideal.Value
public import proofs.«01_k».proof.Proof.Gen.Reference19Ideal.Run
public import proofs.«01_k».proof.Defs
public import proofs.«01_k».proof.Proof.Mm.Spec

@[expose] public section

noncomputable section

namespace Cert.Mm

open Idealize.ShloMosaic Idealize.SL.Sem

theorem frame_2 : Cert.quiescent_Kernel2 := fun m ρ _ =>
  same (congrArg (Pipeline.defs _) (congrArg Defs.onTc (one_label fun _ => rfl))) (Cert.Kernel2Ideal.Gen.frame (F := Bits) m ρ)

theorem plain_2 : Cert.quiescent_Reference2Ideal := fun m ρ _ =>
  quiet (by decide) (Cert.Reference2Ideal.Value.run m ρ)

theorem frame_3 : Cert.quiescent_Kernel3 := fun m ρ _ =>
  same (congrArg (Pipeline.defs _) (congrArg Defs.onTc (one_label fun _ => rfl))) (Cert.Kernel3Ideal.Gen.frame (F := Bits) m ρ)

theorem plain_3 : Cert.quiescent_Reference3Ideal := fun m ρ _ =>
  quiet (by decide) (Cert.Reference3Ideal.Value.run m ρ)

theorem frame_4 : Cert.quiescent_Kernel4 := fun m ρ _ =>
  same (congrArg (Pipeline.defs _) (congrArg Defs.onTc (one_label fun _ => rfl))) (Cert.Kernel4Ideal.Gen.frame (F := Bits) m ρ)

theorem plain_4 : Cert.quiescent_Reference4Ideal := fun m ρ _ =>
  quiet (by decide) (Cert.Reference4Ideal.Value.run m ρ)

theorem frame_5 : Cert.quiescent_Kernel5 := fun m ρ _ =>
  same (congrArg (Pipeline.defs _) (congrArg Defs.onTc (one_label fun _ => rfl))) (Cert.Kernel5Ideal.Gen.frame (F := Bits) m ρ)

theorem plain_5 : Cert.quiescent_Reference5Ideal := fun m ρ _ =>
  quiet (by decide) (Cert.Reference5Ideal.Value.run m ρ)

theorem frame_6 : Cert.quiescent_Kernel6 := fun m ρ _ =>
  same (congrArg (Pipeline.defs _) (congrArg Defs.onTc (one_label fun _ => rfl))) (Cert.Kernel6Ideal.Gen.frame (F := Bits) m ρ)

theorem plain_6 : Cert.quiescent_Reference6Ideal := fun m ρ _ =>
  quiet (by decide) (Cert.Reference6Ideal.Value.run m ρ)

theorem frame_7 : Cert.quiescent_Kernel7 := fun m ρ _ =>
  same (congrArg (Pipeline.defs _) (congrArg Defs.onTc (one_label fun _ => rfl))) (Cert.Kernel7Ideal.Gen.frame (F := Bits) m ρ)

theorem plain_7 : Cert.quiescent_Reference7Ideal := fun m ρ _ =>
  quiet (by decide) (Cert.Reference7Ideal.Value.run m ρ)

theorem frame_8 : Cert.quiescent_Kernel8 := fun m ρ _ =>
  same (congrArg (Pipeline.defs _) (congrArg Defs.onTc (one_label fun _ => rfl))) (Cert.Kernel8Ideal.Gen.frame (F := Bits) m ρ)

theorem plain_8 : Cert.quiescent_Reference8Ideal := fun m ρ _ =>
  quiet (by decide) (Cert.Reference8Ideal.Value.run m ρ)

theorem frame_9 : Cert.quiescent_Kernel9 := fun m ρ _ =>
  same (congrArg (Pipeline.defs _) (congrArg Defs.onTc (one_label fun _ => rfl))) (Cert.Kernel9Ideal.Gen.frame (F := Bits) m ρ)

theorem plain_9 : Cert.quiescent_Reference9Ideal := fun m ρ _ =>
  quiet (by decide) (Cert.Reference9Ideal.Value.run m ρ)

theorem frame_10 : Cert.quiescent_Kernel10 := fun m ρ _ =>
  same (congrArg (Pipeline.defs _) (congrArg Defs.onTc (one_label fun _ => rfl))) (Cert.Kernel10Ideal.Gen.frame (F := Bits) m ρ)

theorem plain_10 : Cert.quiescent_Reference10Ideal := fun m ρ _ =>
  quiet (by decide) (Cert.Reference10Ideal.Value.run m ρ)

theorem frame_11 : Cert.quiescent_Kernel11 := fun m ρ _ =>
  same (congrArg (Pipeline.defs _) (congrArg Defs.onTc (one_label fun _ => rfl))) (Cert.Kernel11Ideal.Gen.frame (F := Bits) m ρ)

theorem plain_11 : Cert.quiescent_Reference11Ideal := fun m ρ _ =>
  quiet (by decide) (Cert.Reference11Ideal.Value.run m ρ)

theorem frame_12 : Cert.quiescent_Kernel12 := fun m ρ _ =>
  same (congrArg (Pipeline.defs _) (congrArg Defs.onTc (one_label fun _ => rfl))) (Cert.Kernel12Ideal.Gen.frame (F := Bits) m ρ)

theorem plain_12 : Cert.quiescent_Reference12Ideal := fun m ρ _ =>
  quiet (by decide) (Cert.Reference12Ideal.Value.run m ρ)

theorem frame_13 : Cert.quiescent_Kernel13 := fun m ρ _ =>
  same (congrArg (Pipeline.defs _) (congrArg Defs.onTc (one_label fun _ => rfl))) (Cert.Kernel13Ideal.Gen.frame (F := Bits) m ρ)

theorem plain_13 : Cert.quiescent_Reference13Ideal := fun m ρ _ =>
  quiet (by decide) (Cert.Reference13Ideal.Value.run m ρ)

theorem frame_14 : Cert.quiescent_Kernel14 := fun m ρ _ =>
  same (congrArg (Pipeline.defs _) (congrArg Defs.onTc (one_label fun _ => rfl))) (Cert.Kernel14Ideal.Gen.frame (F := Bits) m ρ)

theorem plain_14 : Cert.quiescent_Reference14Ideal := fun m ρ _ =>
  quiet (by decide) (Cert.Reference14Ideal.Value.run m ρ)

theorem frame_15 : Cert.quiescent_Kernel15 := fun m ρ _ =>
  same (congrArg (Pipeline.defs _) (congrArg Defs.onTc (one_label fun _ => rfl))) (Cert.Kernel15Ideal.Gen.frame (F := Bits) m ρ)

theorem plain_15 : Cert.quiescent_Reference15Ideal := fun m ρ _ =>
  quiet (by decide) (Cert.Reference15Ideal.Value.run m ρ)

theorem frame_16 : Cert.quiescent_Kernel16 := fun m ρ _ =>
  same (congrArg (Pipeline.defs _) (congrArg Defs.onTc (one_label fun _ => rfl))) (Cert.Kernel16Ideal.Gen.frame (F := Bits) m ρ)

theorem plain_16 : Cert.quiescent_Reference16Ideal := fun m ρ _ =>
  quiet (by decide) (Cert.Reference16Ideal.Value.run m ρ)

theorem frame_17 : Cert.quiescent_Kernel17 := fun m ρ _ =>
  same (congrArg (Pipeline.defs _) (congrArg Defs.onTc (one_label fun _ => rfl))) (Cert.Kernel17Ideal.Gen.frame (F := Bits) m ρ)

theorem plain_17 : Cert.quiescent_Reference17Ideal := fun m ρ _ =>
  quiet (by decide) (Cert.Reference17Ideal.Value.run m ρ)

theorem frame_18 : Cert.quiescent_Kernel18 := fun m ρ _ =>
  same (congrArg (Pipeline.defs _) (congrArg Defs.onTc (one_label fun _ => rfl))) (Cert.Kernel18Ideal.Gen.frame (F := Bits) m ρ)

theorem plain_18 : Cert.quiescent_Reference18Ideal := fun m ρ _ =>
  quiet (by decide) (Cert.Reference18Ideal.Value.run m ρ)

theorem frame_19 : Cert.quiescent_Kernel19 := fun m ρ _ =>
  same (congrArg (Pipeline.defs _) (congrArg Defs.onTc (one_label fun _ => rfl))) (Cert.Kernel19Ideal.Gen.frame (F := Bits) m ρ)

theorem plain_19 : Cert.quiescent_Reference19Ideal := fun m ρ _ =>
  quiet (by decide) (Cert.Reference19Ideal.Value.run m ρ)

end Cert.Mm

end
-- ==== Proof.lean ====
module

public import proofs.«01_k».proof.Defs
public import proofs.«01_k».proof.Proof.Mm.Tn
public import proofs.«01_k».proof.Proof.Mm.Nt
public import proofs.«01_k».proof.Proof.Mm.Nn
public import proofs.«01_k».proof.Proof.Mm.TnCol
public import proofs.«01_k».proof.Proof.Mm.NnCol
public import proofs.«01_k».proof.Proof.Mm.Nk
public import proofs.«01_k».proof.Proof.Mm.DuCol
public import proofs.«01_k».proof.Proof.Mm.DoCol
public import proofs.«01_k».proof.Proof.Mm.Du0
public import proofs.«01_k».proof.Proof.Mm.Du1
public import proofs.«01_k».proof.Proof.Mm.Gu1
public import proofs.«01_k».proof.Proof.Mm.Frames
public import Idealize.ShloMosaic.Lib.Quiescent

@[expose] public section

noncomputable section

namespace Cert.Proof

open Idealize.ShloMosaic Idealize.SL.Sem

theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Mm.frame_2, fun m ρ _ => Cert.Kernel2Ideal.Gen.frame m ρ, Mm.plain_2,
    Mm.frame_3, fun m ρ _ => Cert.Kernel3Ideal.Gen.frame m ρ, Mm.plain_3,
    Mm.frame_4, fun m ρ _ => Cert.Kernel4Ideal.Gen.frame m ρ, Mm.plain_4,
    Mm.frame_5, fun m ρ _ => Cert.Kernel5Ideal.Gen.frame m ρ, Mm.plain_5,
    Mm.frame_6, fun m ρ _ => Cert.Kernel6Ideal.Gen.frame m ρ, Mm.plain_6,
    Mm.frame_7, fun m ρ _ => Cert.Kernel7Ideal.Gen.frame m ρ, Mm.plain_7,
    Mm.frame_8, fun m ρ _ => Cert.Kernel8Ideal.Gen.frame m ρ, Mm.plain_8,
    Mm.frame_9, fun m ρ _ => Cert.Kernel9Ideal.Gen.frame m ρ, Mm.plain_9,
    Mm.frame_10, fun m ρ _ => Cert.Kernel10Ideal.Gen.frame m ρ, Mm.plain_10,
    Mm.frame_11, fun m ρ _ => Cert.Kernel11Ideal.Gen.frame m ρ, Mm.plain_11,
    Mm.frame_12, fun m ρ _ => Cert.Kernel12Ideal.Gen.frame m ρ, Mm.plain_12,
    Mm.frame_13, fun m ρ _ => Cert.Kernel13Ideal.Gen.frame m ρ, Mm.plain_13,
    Mm.frame_14, fun m ρ _ => Cert.Kernel14Ideal.Gen.frame m ρ, Mm.plain_14,
    Mm.frame_15, fun m ρ _ => Cert.Kernel15Ideal.Gen.frame m ρ, Mm.plain_15,
    Mm.frame_16, fun m ρ _ => Cert.Kernel16Ideal.Gen.frame m ρ, Mm.plain_16,
    Mm.frame_17, fun m ρ _ => Cert.Kernel17Ideal.Gen.frame m ρ, Mm.plain_17,
    Mm.frame_18, fun m ρ _ => Cert.Kernel18Ideal.Gen.frame m ρ, Mm.plain_18,
    Mm.frame_19, fun m ρ _ => Cert.Kernel19Ideal.Gen.frame m ρ, Mm.plain_19,
    trivial, Mm.dw_down,
    trivial, Mm.dact,
    trivial, Mm.dw_gate_up,
    trivial, Mm.du,
    trivial, Mm.dw_in,
    trivial, Mm.mix_du,
    trivial, Mm.dw_out,
    trivial, Mm.dmerged,
    trivial, Mm.down,
    trivial, Mm.gate_up,
    trivial, Mm.mix_in,
    trivial, Mm.mix_out,
    trivial, Mm.mix_dw_proj,
    trivial, Mm.mix_do,
    trivial, Mm.mix_proj,
    trivial, Mm.du_0,
    trivial, Mm.du_1,
    trivial, Mm.gate_up_1⟩

end Cert.Proof

end
